-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S_ : Shape := ⟨0, ![]⟩
abbrev S128x512 : Shape := ⟨2, ![128, 512]⟩
abbrev S32x512 : Shape := ⟨2, ![32, 512]⟩
abbrev S3x32x512 : Shape := ⟨3, ![3, 32, 512]⟩
abbrev S3 : Shape := ⟨1, ![3]⟩
abbrev S3x4 : Shape := ⟨2, ![3, 4]⟩
abbrev S1 : Shape := ⟨1, ![1]⟩
abbrev S1x32x512 : Shape := ⟨3, ![1, 32, 512]⟩
abbrev S32 : Shape := ⟨1, ![32]⟩
abbrev S32x1 : Shape := ⟨2, ![32, 1]⟩
abbrev S1x1 : Shape := ⟨2, ![1, 1]⟩

abbrev nBuf : Space → Nat
  | .hbm => 46
  | .vmem => 5
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S1x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S128x512, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S32x512, .f32⟩
  | .hbm, ⟨45, _⟩ => ⟨S512x512, .f32⟩
  | .local _ .vmem, ⟨0, _⟩ => ⟨S128x512, .f32⟩
  | .local _ .vmem, ⟨1, _⟩ => ⟨S32x512, .f32⟩
  | .local _ .vmem, ⟨2, _⟩ => ⟨S1x512, .f32⟩
  | .local _ .vmem, ⟨3, _⟩ => ⟨S512x512, .f32⟩
  | .local _ .vmem, ⟨4, _⟩ => ⟨S3x32x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_c_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_5 : Ref sig .tc := ⟨.hbm, 23, rfl⟩
abbrev main_v15 : Ref sig .tc := ⟨.hbm, 24, rfl⟩
abbrev main_v16 : Ref sig .tc := ⟨.hbm, 25, rfl⟩
abbrev main_c_6 : Ref sig .tc := ⟨.hbm, 26, rfl⟩
abbrev main_v17 : Ref sig .tc := ⟨.hbm, 27, rfl⟩
abbrev main_c_7 : Ref sig .tc := ⟨.hbm, 28, rfl⟩
abbrev main_v18 : Ref sig .tc := ⟨.hbm, 29, rfl⟩
abbrev main_c_8 : Ref sig .tc := ⟨.hbm, 30, rfl⟩
abbrev main_v19 : Ref sig .tc := ⟨.hbm, 31, rfl⟩
abbrev main_v20 : Ref sig .tc := ⟨.hbm, 32, rfl⟩
abbrev main_c_9 : Ref sig .tc := ⟨.hbm, 33, rfl⟩
abbrev main_v21 : Ref sig .tc := ⟨.hbm, 34, rfl⟩
abbrev main_c_10 : Ref sig .tc := ⟨.hbm, 35, rfl⟩
abbrev main_v22 : Ref sig .tc := ⟨.hbm, 36, rfl⟩
abbrev main_v23 : Ref sig .tc := ⟨.hbm, 37, rfl⟩
abbrev main_c_11 : Ref sig .tc := ⟨.hbm, 38, rfl⟩
abbrev main_v24 : Ref sig .tc := ⟨.hbm, 39, rfl⟩
abbrev main_c_12 : Ref sig .tc := ⟨.hbm, 40, rfl⟩
abbrev main_v25 : Ref sig .tc := ⟨.hbm, 41, rfl⟩
abbrev main_v26 : Ref sig .tc := ⟨.hbm, 42, rfl⟩
abbrev main_c_13 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_28 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_27 : BitVec 32 := 8#32
  let v52 : BitVec 32 := Scalar.muli v2 c8_i32_27
  let v53 : BitVec 32 := Scalar.addi c0_i32_28 v52
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v54 : BitVec 32 := Scalar.muli v5 c4_i32_29
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v14 : BitVec 32 := Scalar.addi v8 c1_i32_3
  let c4_i32_4 : BitVec 32 := 4#32
  let c0_i32 : BitVec 32 := 0#32
  let v15 : BitVec 1 := Scalar.cmpi .eq c4_i32_4 c0_i32
  let c1_i32_5 : BitVec 32 := 1#32
  let v16 : BitVec 32 := Scalar.select v15 c1_i32_5 c4_i32_4
  let v17 : BitVec 32 := Scalar.remsi v14 v16
  let c0_i32_7 : BitVec 32 := 0#32
  let v19 : BitVec 1 := Scalar.cmpi .slt v17 c0_i32_7
  let c0_i32_8 : BitVec 32 := 0#32
  let v20 : BitVec 1 := Scalar.cmpi .slt v16 c0_i32_8
  let v21 : BitVec 1 := Scalar.xori v19 v20
  let c0_i32_6 : BitVec 32 := 0#32
  let v18 : BitVec 1 := Scalar.cmpi .ne v17 c0_i32_6
  let v22 : BitVec 1 := Scalar.andi v21 v18
  let v23 : BitVec 32 := Scalar.addi v17 v16
  let v24 : BitVec 32 := Scalar.select v22 v23 v17
  let c1_i32_30 : BitVec 32 := 1#32
  let v56 : BitVec 32 := Scalar.muli v24 c1_i32_30
  let v57 : BitVec 32 := Scalar.addi v55 v56
  v57.toNat
def k0_dev2 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v58 : BitVec 32 := Scalar.muli v2 c8_i32_32
  let v59 : BitVec 32 := Scalar.addi c0_i32_33 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v60 : BitVec 32 := Scalar.muli v5 c4_i32_34
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v25 : BitVec 32 := Scalar.addi v8 c2_i32_9
  let c4_i32_10 : BitVec 32 := 4#32
  let c0_i32_11 : BitVec 32 := 0#32
  let v26 : BitVec 1 := Scalar.cmpi .eq c4_i32_10 c0_i32_11
  let c1_i32_12 : BitVec 32 := 1#32
  let v27 : BitVec 32 := Scalar.select v26 c1_i32_12 c4_i32_10
  let v28 : BitVec 32 := Scalar.remsi v25 v27
  let c0_i32_14 : BitVec 32 := 0#32
  let v30 : BitVec 1 := Scalar.cmpi .slt v28 c0_i32_14
  let c0_i32_15 : BitVec 32 := 0#32
  let v31 : BitVec 1 := Scalar.cmpi .slt v27 c0_i32_15
  let v32 : BitVec 1 := Scalar.xori v30 v31
  let c0_i32_13 : BitVec 32 := 0#32
  let v29 : BitVec 1 := Scalar.cmpi .ne v28 c0_i32_13
  let v33 : BitVec 1 := Scalar.andi v32 v29
  let v34 : BitVec 32 := Scalar.addi v28 v27
  let v35 : BitVec 32 := Scalar.select v33 v34 v28
  let c1_i32_35 : BitVec 32 := 1#32
  let v62 : BitVec 32 := Scalar.muli v35 c1_i32_35
  let v63 : BitVec 32 := Scalar.addi v61 v62
  v63.toNat
def k0_dev3 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v64 : BitVec 32 := Scalar.muli v2 c8_i32_37
  let v65 : BitVec 32 := Scalar.addi c0_i32_38 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v66 : BitVec 32 := Scalar.muli v5 c4_i32_39
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v36 : BitVec 32 := Scalar.addi v8 c3_i32
  let c4_i32_16 : BitVec 32 := 4#32
  let c0_i32_17 : BitVec 32 := 0#32
  let v37 : BitVec 1 := Scalar.cmpi .eq c4_i32_16 c0_i32_17
  let c1_i32_18 : BitVec 32 := 1#32
  let v38 : BitVec 32 := Scalar.select v37 c1_i32_18 c4_i32_16
  let v39 : BitVec 32 := Scalar.remsi v36 v38
  let c0_i32_20 : BitVec 32 := 0#32
  let v41 : BitVec 1 := Scalar.cmpi .slt v39 c0_i32_20
  let c0_i32_21 : BitVec 32 := 0#32
  let v42 : BitVec 1 := Scalar.cmpi .slt v38 c0_i32_21
  let v43 : BitVec 1 := Scalar.xori v41 v42
  let c0_i32_19 : BitVec 32 := 0#32
  let v40 : BitVec 1 := Scalar.cmpi .ne v39 c0_i32_19
  let v44 : BitVec 1 := Scalar.andi v43 v40
  let v45 : BitVec 32 := Scalar.addi v39 v38
  let v46 : BitVec 32 := Scalar.select v44 v45 v39
  let c1_i32_40 : BitVec 32 := 1#32
  let v68 : BitVec 32 := Scalar.muli v46 c1_i32_40
  let v69 : BitVec 32 := Scalar.addi v67 v68
  v69.toNat
def k0_dev4 (d0 : Dev nD) : Nat :=
  let c0_i32_43 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_42 : BitVec 32 := 8#32
  let v70 : BitVec 32 := Scalar.muli v47 c8_i32_42
  let v71 : BitVec 32 := Scalar.addi c0_i32_43 v70
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_44 : BitVec 32 := 4#32
  let v72 : BitVec 32 := Scalar.muli v5 c4_i32_44
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v74 : BitVec 32 := Scalar.muli v8 c1_i32_45
  let v75 : BitVec 32 := Scalar.addi v73 v74
  v75.toNat
def k0_dev5 (d0 : Dev nD) : Nat :=
  let c0_i32_48 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_47 : BitVec 32 := 8#32
  let v76 : BitVec 32 := Scalar.muli v2 c8_i32_47
  let v77 : BitVec 32 := Scalar.addi c0_i32_48 v76
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_49 : BitVec 32 := 4#32
  let v78 : BitVec 32 := Scalar.muli v48 c4_i32_49
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v80 : BitVec 32 := Scalar.muli v8 c1_i32_50
  let v81 : BitVec 32 := Scalar.addi v79 v80
  v81.toNat
def k0_dev6 (d0 : Dev nD) : Nat :=
  let c0_i32_53 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_52 : BitVec 32 := 8#32
  let v82 : BitVec 32 := Scalar.muli v49 c8_i32_52
  let v83 : BitVec 32 := Scalar.addi c0_i32_53 v82
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_54 : BitVec 32 := 4#32
  let v84 : BitVec 32 := Scalar.muli v50 c4_i32_54
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v86 : BitVec 32 := Scalar.muli v8 c1_i32_55
  let v87 : BitVec 32 := Scalar.addi v85 v86
  v87.toNat
def k0_off1 (d0 : Dev nD) (c1_i32_3 : BitVec 32) : Fin 2 → Nat :=
  let c32_i32_56 : BitVec 32 := 32#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.addi v8 c1_i32_3
  let c4_i32_4 : BitVec 32 := 4#32
  let c0_i32 : BitVec 32 := 0#32
  let v15 : BitVec 1 := Scalar.cmpi .eq c4_i32_4 c0_i32
  let c1_i32_5 : BitVec 32 := 1#32
  let v16 : BitVec 32 := Scalar.select v15 c1_i32_5 c4_i32_4
  let v17 : BitVec 32 := Scalar.remsi v14 v16
  let c0_i32_7 : BitVec 32 := 0#32
  let v19 : BitVec 1 := Scalar.cmpi .slt v17 c0_i32_7
  let c0_i32_8 : BitVec 32 := 0#32
  let v20 : BitVec 1 := Scalar.cmpi .slt v16 c0_i32_8
  let v21 : BitVec 1 := Scalar.xori v19 v20
  let c0_i32_6 : BitVec 32 := 0#32
  let v18 : BitVec 1 := Scalar.cmpi .ne v17 c0_i32_6
  let v22 : BitVec 1 := Scalar.andi v21 v18
  let v23 : BitVec 32 := Scalar.addi v17 v16
  let v24 : BitVec 32 := Scalar.select v22 v23 v17
  let v88 : BitVec 32 := Scalar.muli c32_i32_56 v24
  let c0_i32_66 : BitVec 32 := 0#32
  ![v88.toNat, 0]
def k0_dev7 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v89 : BitVec 32 := Scalar.muli v2 c8_i32_60
  let v90 : BitVec 32 := Scalar.addi c0_i32_61 v89
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v91 : BitVec 32 := Scalar.muli v5 c4_i32_62
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v14 : BitVec 32 := Scalar.addi v8 c1_i32_3
  let c4_i32_4 : BitVec 32 := 4#32
  let c0_i32 : BitVec 32 := 0#32
  let v15 : BitVec 1 := Scalar.cmpi .eq c4_i32_4 c0_i32
  let c1_i32_5 : BitVec 32 := 1#32
  let v16 : BitVec 32 := Scalar.select v15 c1_i32_5 c4_i32_4
  let v17 : BitVec 32 := Scalar.remsi v14 v16
  let c0_i32_7 : BitVec 32 := 0#32
  let v19 : BitVec 1 := Scalar.cmpi .slt v17 c0_i32_7
  let c0_i32_8 : BitVec 32 := 0#32
  let v20 : BitVec 1 := Scalar.cmpi .slt v16 c0_i32_8
  let v21 : BitVec 1 := Scalar.xori v19 v20
  let c0_i32_6 : BitVec 32 := 0#32
  let v18 : BitVec 1 := Scalar.cmpi .ne v17 c0_i32_6
  let v22 : BitVec 1 := Scalar.andi v21 v18
  let v23 : BitVec 32 := Scalar.addi v17 v16
  let v24 : BitVec 32 := Scalar.select v22 v23 v17
  let c1_i32_63 : BitVec 32 := 1#32
  let v93 : BitVec 32 := Scalar.muli v24 c1_i32_63
  let v94 : BitVec 32 := Scalar.addi v92 v93
  v94.toNat
def k0_dev8 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v103 : BitVec 32 := Scalar.muli v2 c8_i32_71
  let v104 : BitVec 32 := Scalar.addi c0_i32_72 v103
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_73 : BitVec 32 := 4#32
  let v105 : BitVec 32 := Scalar.muli v5 c4_i32_73
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v25 : BitVec 32 := Scalar.addi v8 c2_i32_9
  let c4_i32_10 : BitVec 32 := 4#32
  let c0_i32_11 : BitVec 32 := 0#32
  let v26 : BitVec 1 := Scalar.cmpi .eq c4_i32_10 c0_i32_11
  let c1_i32_12 : BitVec 32 := 1#32
  let v27 : BitVec 32 := Scalar.select v26 c1_i32_12 c4_i32_10
  let v28 : BitVec 32 := Scalar.remsi v25 v27
  let c0_i32_14 : BitVec 32 := 0#32
  let v30 : BitVec 1 := Scalar.cmpi .slt v28 c0_i32_14
  let c0_i32_15 : BitVec 32 := 0#32
  let v31 : BitVec 1 := Scalar.cmpi .slt v27 c0_i32_15
  let v32 : BitVec 1 := Scalar.xori v30 v31
  let c0_i32_13 : BitVec 32 := 0#32
  let v29 : BitVec 1 := Scalar.cmpi .ne v28 c0_i32_13
  let v33 : BitVec 1 := Scalar.andi v32 v29
  let v34 : BitVec 32 := Scalar.addi v28 v27
  let v35 : BitVec 32 := Scalar.select v33 v34 v28
  let c1_i32_74 : BitVec 32 := 1#32
  let v107 : BitVec 32 := Scalar.muli v35 c1_i32_74
  let v108 : BitVec 32 := Scalar.addi v106 v107
  v108.toNat
def k0_dev9 (d0 : Dev nD) : Nat :=
  let c0_i32_83 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_82 : BitVec 32 := 8#32
  let v117 : BitVec 32 := Scalar.muli v2 c8_i32_82
  let v118 : BitVec 32 := Scalar.addi c0_i32_83 v117
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v119 : BitVec 32 := Scalar.muli v5 c4_i32_84
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v36 : BitVec 32 := Scalar.addi v8 c3_i32
  let c4_i32_16 : BitVec 32 := 4#32
  let c0_i32_17 : BitVec 32 := 0#32
  let v37 : BitVec 1 := Scalar.cmpi .eq c4_i32_16 c0_i32_17
  let c1_i32_18 : BitVec 32 := 1#32
  let v38 : BitVec 32 := Scalar.select v37 c1_i32_18 c4_i32_16
  let v39 : BitVec 32 := Scalar.remsi v36 v38
  let c0_i32_20 : BitVec 32 := 0#32
  let v41 : BitVec 1 := Scalar.cmpi .slt v39 c0_i32_20
  let c0_i32_21 : BitVec 32 := 0#32
  let v42 : BitVec 1 := Scalar.cmpi .slt v38 c0_i32_21
  let v43 : BitVec 1 := Scalar.xori v41 v42
  let c0_i32_19 : BitVec 32 := 0#32
  let v40 : BitVec 1 := Scalar.cmpi .ne v39 c0_i32_19
  let v44 : BitVec 1 := Scalar.andi v43 v40
  let v45 : BitVec 32 := Scalar.addi v39 v38
  let v46 : BitVec 32 := Scalar.select v44 v45 v39
  let c1_i32_85 : BitVec 32 := 1#32
  let v121 : BitVec 32 := Scalar.muli v46 c1_i32_85
  let v122 : BitVec 32 := Scalar.addi v120 v121
  v122.toNat
def k0_off2 (d0 : Dev nD) : Fin 2 → Nat :=
  let c32_i32_119 : BitVec 32 := 32#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v163 : BitVec 32 := Scalar.muli c32_i32_119 v8
  let v164 : Index := Scalar.indexCast v163
  let c0 : Index := 0#32
  ![v164.toNat, 0]
def k0_off3 (d0 : Dev nD) : Fin 2 → Nat :=
  let c128_i32 : BitVec 32 := 128#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c128_i32 v10
  let c32_i32 : BitVec 32 := 32#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.muli c32_i32 v8
  let v13 : BitVec 32 := Scalar.addi v11 v12
  let v193 : Index := Scalar.indexCast v13
  let c0_133 : Index := 0#32
  ![v193.toNat, 0]
def k0_off4 (d0 : Dev nD) : Fin 2 → Nat :=
  let c128_i32 : BitVec 32 := 128#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c128_i32 v10
  let c32_i32 : BitVec 32 := 32#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.muli c32_i32 v8
  let v13 : BitVec 32 := Scalar.addi v11 v12
  let c0_i32_140 : BitVec 32 := 0#32
  ![v13.toNat, 0]
def k0_dev10 (d0 : Dev nD) : Nat :=
  let c0_i32_137 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_136 : BitVec 32 := 8#32
  let v195 : BitVec 32 := Scalar.muli v2 c8_i32_136
  let v196 : BitVec 32 := Scalar.addi c0_i32_137 v195
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_138 : BitVec 32 := 4#32
  let v197 : BitVec 32 := Scalar.muli v5 c4_i32_138
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v14 : BitVec 32 := Scalar.addi v8 c1_i32_3
  let c4_i32_4 : BitVec 32 := 4#32
  let c0_i32 : BitVec 32 := 0#32
  let v15 : BitVec 1 := Scalar.cmpi .eq c4_i32_4 c0_i32
  let c1_i32_5 : BitVec 32 := 1#32
  let v16 : BitVec 32 := Scalar.select v15 c1_i32_5 c4_i32_4
  let v17 : BitVec 32 := Scalar.remsi v14 v16
  let c0_i32_7 : BitVec 32 := 0#32
  let v19 : BitVec 1 := Scalar.cmpi .slt v17 c0_i32_7
  let c0_i32_8 : BitVec 32 := 0#32
  let v20 : BitVec 1 := Scalar.cmpi .slt v16 c0_i32_8
  let v21 : BitVec 1 := Scalar.xori v19 v20
  let c0_i32_6 : BitVec 32 := 0#32
  let v18 : BitVec 1 := Scalar.cmpi .ne v17 c0_i32_6
  let v22 : BitVec 1 := Scalar.andi v21 v18
  let v23 : BitVec 32 := Scalar.addi v17 v16
  let v24 : BitVec 32 := Scalar.select v22 v23 v17
  let c1_i32_139 : BitVec 32 := 1#32
  let v199 : BitVec 32 := Scalar.muli v24 c1_i32_139
  let v200 : BitVec 32 := Scalar.addi v198 v199
  v200.toNat
def k0_dev11 (d0 : Dev nD) : Nat :=
  let c0_i32_145 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_144 : BitVec 32 := 8#32
  let v207 : BitVec 32 := Scalar.muli v2 c8_i32_144
  let v208 : BitVec 32 := Scalar.addi c0_i32_145 v207
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_146 : BitVec 32 := 4#32
  let v209 : BitVec 32 := Scalar.muli v5 c4_i32_146
  let v210 : BitVec 32 := Scalar.addi v208 v209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v25 : BitVec 32 := Scalar.addi v8 c2_i32_9
  let c4_i32_10 : BitVec 32 := 4#32
  let c0_i32_11 : BitVec 32 := 0#32
  let v26 : BitVec 1 := Scalar.cmpi .eq c4_i32_10 c0_i32_11
  let c1_i32_12 : BitVec 32 := 1#32
  let v27 : BitVec 32 := Scalar.select v26 c1_i32_12 c4_i32_10
  let v28 : BitVec 32 := Scalar.remsi v25 v27
  let c0_i32_14 : BitVec 32 := 0#32
  let v30 : BitVec 1 := Scalar.cmpi .slt v28 c0_i32_14
  let c0_i32_15 : BitVec 32 := 0#32
  let v31 : BitVec 1 := Scalar.cmpi .slt v27 c0_i32_15
  let v32 : BitVec 1 := Scalar.xori v30 v31
  let c0_i32_13 : BitVec 32 := 0#32
  let v29 : BitVec 1 := Scalar.cmpi .ne v28 c0_i32_13
  let v33 : BitVec 1 := Scalar.andi v32 v29
  let v34 : BitVec 32 := Scalar.addi v28 v27
  let v35 : BitVec 32 := Scalar.select v33 v34 v28
  let c1_i32_147 : BitVec 32 := 1#32
  let v211 : BitVec 32 := Scalar.muli v35 c1_i32_147
  let v212 : BitVec 32 := Scalar.addi v210 v211
  v212.toNat
def k0_dev12 (d0 : Dev nD) : Nat :=
  let c0_i32_153 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_152 : BitVec 32 := 8#32
  let v219 : BitVec 32 := Scalar.muli v2 c8_i32_152
  let v220 : BitVec 32 := Scalar.addi c0_i32_153 v219
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_154 : BitVec 32 := 4#32
  let v221 : BitVec 32 := Scalar.muli v5 c4_i32_154
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v36 : BitVec 32 := Scalar.addi v8 c3_i32
  let c4_i32_16 : BitVec 32 := 4#32
  let c0_i32_17 : BitVec 32 := 0#32
  let v37 : BitVec 1 := Scalar.cmpi .eq c4_i32_16 c0_i32_17
  let c1_i32_18 : BitVec 32 := 1#32
  let v38 : BitVec 32 := Scalar.select v37 c1_i32_18 c4_i32_16
  let v39 : BitVec 32 := Scalar.remsi v36 v38
  let c0_i32_20 : BitVec 32 := 0#32
  let v41 : BitVec 1 := Scalar.cmpi .slt v39 c0_i32_20
  let c0_i32_21 : BitVec 32 := 0#32
  let v42 : BitVec 1 := Scalar.cmpi .slt v38 c0_i32_21
  let v43 : BitVec 1 := Scalar.xori v41 v42
  let c0_i32_19 : BitVec 32 := 0#32
  let v40 : BitVec 1 := Scalar.cmpi .ne v39 c0_i32_19
  let v44 : BitVec 1 := Scalar.andi v43 v40
  let v45 : BitVec 32 := Scalar.addi v39 v38
  let v46 : BitVec 32 := Scalar.select v44 v45 v39
  let c1_i32_155 : BitVec 32 := 1#32
  let v223 : BitVec 32 := Scalar.muli v46 c1_i32_155
  let v224 : BitVec 32 := Scalar.addi v222 v223
  v224.toNat
def k0_dev13 (d0 : Dev nD) : Nat :=
  let c0_i32_163 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_162 : BitVec 32 := 8#32
  let v231 : BitVec 32 := Scalar.muli v47 c8_i32_162
  let v232 : BitVec 32 := Scalar.addi c0_i32_163 v231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_164 : BitVec 32 := 4#32
  let v233 : BitVec 32 := Scalar.muli v5 c4_i32_164
  let v234 : BitVec 32 := Scalar.addi v232 v233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v235 : BitVec 32 := Scalar.muli v8 c1_i32_165
  let v236 : BitVec 32 := Scalar.addi v234 v235
  v236.toNat
def k0_dev14 (d0 : Dev nD) : Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_172 : BitVec 32 := 8#32
  let v243 : BitVec 32 := Scalar.muli v2 c8_i32_172
  let v244 : BitVec 32 := Scalar.addi c0_i32_173 v243
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_174 : BitVec 32 := 4#32
  let v245 : BitVec 32 := Scalar.muli v48 c4_i32_174
  let v246 : BitVec 32 := Scalar.addi v244 v245
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v247 : BitVec 32 := Scalar.muli v8 c1_i32_175
  let v248 : BitVec 32 := Scalar.addi v246 v247
  v248.toNat
def k0_dev15 (d0 : Dev nD) : Nat :=
  let c0_i32_183 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_182 : BitVec 32 := 8#32
  let v255 : BitVec 32 := Scalar.muli v49 c8_i32_182
  let v256 : BitVec 32 := Scalar.addi c0_i32_183 v255
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_184 : BitVec 32 := 4#32
  let v257 : BitVec 32 := Scalar.muli v50 c4_i32_184
  let v258 : BitVec 32 := Scalar.addi v256 v257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v259 : BitVec 32 := Scalar.muli v8 c1_i32_185
  let v260 : BitVec 32 := Scalar.addi v258 v259
  v260.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_188 : BitVec 32 := 0#32
  let v267 : BitVec 1 := Scalar.cmpi .eq v8 c0_i32_188
  let v268 : BitVec 32 := Scalar.extui v267
  let c0_i32_195 : BitVec 32 := 0#32
  let v269 : BitVec 1 := Scalar.cmpi .ne v268 c0_i32_195
  v269

def k0_off5 (d0 : Dev nD) : Fin 2 → Nat :=
  let c128_i32 : BitVec 32 := 128#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c128_i32 v10
  let c32_i32 : BitVec 32 := 32#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.muli c32_i32 v8
  let v13 : BitVec 32 := Scalar.addi v11 v12
  let c0_i32_464 : BitVec 32 := 0#32
  ![v13.toNat, 0]
def k0_off6 (d0 : Dev nD) (c32_i32_466 : BitVec 32) : Fin 2 → Nat :=
  let c128_i32 : BitVec 32 := 128#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c128_i32 v10
  let v484 : BitVec 32 := Scalar.addi v11 c32_i32_466
  let c0_i32_475 : BitVec 32 := 0#32
  ![v484.toNat, 0]
def k0_dev16 (d0 : Dev nD) : Nat :=
  let c0_i32_472 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_471 : BitVec 32 := 8#32
  let v485 : BitVec 32 := Scalar.muli v47 c8_i32_471
  let v486 : BitVec 32 := Scalar.addi c0_i32_472 v485
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_473 : BitVec 32 := 4#32
  let v487 : BitVec 32 := Scalar.muli v5 c4_i32_473
  let v488 : BitVec 32 := Scalar.addi v486 v487
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_474 : BitVec 32 := 1#32
  let v489 : BitVec 32 := Scalar.muli v8 c1_i32_474
  let v490 : BitVec 32 := Scalar.addi v488 v489
  v490.toNat
def k0_dev17 (d0 : Dev nD) : Nat :=
  let c0_i32_482 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_481 : BitVec 32 := 8#32
  let v497 : BitVec 32 := Scalar.muli v2 c8_i32_481
  let v498 : BitVec 32 := Scalar.addi c0_i32_482 v497
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_483 : BitVec 32 := 4#32
  let v499 : BitVec 32 := Scalar.muli v48 c4_i32_483
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_484 : BitVec 32 := 1#32
  let v501 : BitVec 32 := Scalar.muli v8 c1_i32_484
  let v502 : BitVec 32 := Scalar.addi v500 v501
  v502.toNat
def k0_dev18 (d0 : Dev nD) : Nat :=
  let c0_i32_492 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_491 : BitVec 32 := 8#32
  let v509 : BitVec 32 := Scalar.muli v49 c8_i32_491
  let v510 : BitVec 32 := Scalar.addi c0_i32_492 v509
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_493 : BitVec 32 := 4#32
  let v511 : BitVec 32 := Scalar.muli v50 c4_i32_493
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v513 : BitVec 32 := Scalar.muli v8 c1_i32_494
  let v514 : BitVec 32 := Scalar.addi v512 v513
  v514.toNat
def k0_dev19 (d0 : Dev nD) : Nat :=
  let c0_i32_508 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_507 : BitVec 32 := 8#32
  let v532 : BitVec 32 := Scalar.muli v47 c8_i32_507
  let v533 : BitVec 32 := Scalar.addi c0_i32_508 v532
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_509 : BitVec 32 := 4#32
  let v534 : BitVec 32 := Scalar.muli v5 c4_i32_509
  let v535 : BitVec 32 := Scalar.addi v533 v534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_510 : BitVec 32 := 1#32
  let v536 : BitVec 32 := Scalar.muli v8 c1_i32_510
  let v537 : BitVec 32 := Scalar.addi v535 v536
  v537.toNat
def k0_dev20 (d0 : Dev nD) : Nat :=
  let c0_i32_518 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_517 : BitVec 32 := 8#32
  let v544 : BitVec 32 := Scalar.muli v2 c8_i32_517
  let v545 : BitVec 32 := Scalar.addi c0_i32_518 v544
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_519 : BitVec 32 := 4#32
  let v546 : BitVec 32 := Scalar.muli v48 c4_i32_519
  let v547 : BitVec 32 := Scalar.addi v545 v546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520 : BitVec 32 := 1#32
  let v548 : BitVec 32 := Scalar.muli v8 c1_i32_520
  let v549 : BitVec 32 := Scalar.addi v547 v548
  v549.toNat
def k0_dev21 (d0 : Dev nD) : Nat :=
  let c0_i32_528 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_527 : BitVec 32 := 8#32
  let v556 : BitVec 32 := Scalar.muli v49 c8_i32_527
  let v557 : BitVec 32 := Scalar.addi c0_i32_528 v556
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_529 : BitVec 32 := 4#32
  let v558 : BitVec 32 := Scalar.muli v50 c4_i32_529
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_530 : BitVec 32 := 1#32
  let v560 : BitVec 32 := Scalar.muli v8 c1_i32_530
  let v561 : BitVec 32 := Scalar.addi v559 v560
  v561.toNat
def k0_dev22 (d0 : Dev nD) : Nat :=
  let c0_i32_544 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_543 : BitVec 32 := 8#32
  let v579 : BitVec 32 := Scalar.muli v47 c8_i32_543
  let v580 : BitVec 32 := Scalar.addi c0_i32_544 v579
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_545 : BitVec 32 := 4#32
  let v581 : BitVec 32 := Scalar.muli v5 c4_i32_545
  let v582 : BitVec 32 := Scalar.addi v580 v581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_546 : BitVec 32 := 1#32
  let v583 : BitVec 32 := Scalar.muli v8 c1_i32_546
  let v584 : BitVec 32 := Scalar.addi v582 v583
  v584.toNat
def k0_dev23 (d0 : Dev nD) : Nat :=
  let c0_i32_554 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_553 : BitVec 32 := 8#32
  let v591 : BitVec 32 := Scalar.muli v2 c8_i32_553
  let v592 : BitVec 32 := Scalar.addi c0_i32_554 v591
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_555 : BitVec 32 := 4#32
  let v593 : BitVec 32 := Scalar.muli v48 c4_i32_555
  let v594 : BitVec 32 := Scalar.addi v592 v593
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_556 : BitVec 32 := 1#32
  let v595 : BitVec 32 := Scalar.muli v8 c1_i32_556
  let v596 : BitVec 32 := Scalar.addi v594 v595
  v596.toNat
def k0_dev24 (d0 : Dev nD) : Nat :=
  let c0_i32_564 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_563 : BitVec 32 := 8#32
  let v603 : BitVec 32 := Scalar.muli v49 c8_i32_563
  let v604 : BitVec 32 := Scalar.addi c0_i32_564 v603
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_565 : BitVec 32 := 4#32
  let v605 : BitVec 32 := Scalar.muli v50 c4_i32_565
  let v606 : BitVec 32 := Scalar.addi v604 v605
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v607 : BitVec 32 := Scalar.muli v8 c1_i32_566
  let v608 : BitVec 32 := Scalar.addi v606 v607
  v608.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v270 : BitVec 1 := Scalar.cmpi .eq v8 c1_i32_196
  let v271 : BitVec 32 := Scalar.extui v270
  let c0_i32_203 : BitVec 32 := 0#32
  let v272 : BitVec 1 := Scalar.cmpi .ne v271 c0_i32_203
  v272

def k0_off7 (d0 : Dev nD) : Fin 2 → Nat :=
  let c128_i32 : BitVec 32 := 128#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c128_i32 v10
  let c32_i32 : BitVec 32 := 32#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.muli c32_i32 v8
  let v13 : BitVec 32 := Scalar.addi v11 v12
  let c0_i32_464 : BitVec 32 := 0#32
  ![v13.toNat, 0]
def k0_off8 (d0 : Dev nD) (c0_i32_466 : BitVec 32) : Fin 2 → Nat :=
  let c128_i32 : BitVec 32 := 128#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c128_i32 v10
  let v484 : BitVec 32 := Scalar.addi v11 c0_i32_466
  let c0_i32_475 : BitVec 32 := 0#32
  ![v484.toNat, 0]
def k0_off8_at (r : Fin 3) : BitVec 32 :=
  if r.val < 1 then
    0#32
  else
    if r.val < 2 then
      64#32
    else
      96#32
def k0_dev25 (d0 : Dev nD) : Nat :=
  let c0_i32_472 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_471 : BitVec 32 := 8#32
  let v485 : BitVec 32 := Scalar.muli v47 c8_i32_471
  let v486 : BitVec 32 := Scalar.addi c0_i32_472 v485
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_473 : BitVec 32 := 4#32
  let v487 : BitVec 32 := Scalar.muli v5 c4_i32_473
  let v488 : BitVec 32 := Scalar.addi v486 v487
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_474 : BitVec 32 := 1#32
  let v489 : BitVec 32 := Scalar.muli v8 c1_i32_474
  let v490 : BitVec 32 := Scalar.addi v488 v489
  v490.toNat
def k0_dev26 (d0 : Dev nD) : Nat :=
  let c0_i32_482 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_481 : BitVec 32 := 8#32
  let v497 : BitVec 32 := Scalar.muli v2 c8_i32_481
  let v498 : BitVec 32 := Scalar.addi c0_i32_482 v497
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_483 : BitVec 32 := 4#32
  let v499 : BitVec 32 := Scalar.muli v48 c4_i32_483
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_484 : BitVec 32 := 1#32
  let v501 : BitVec 32 := Scalar.muli v8 c1_i32_484
  let v502 : BitVec 32 := Scalar.addi v500 v501
  v502.toNat
def k0_dev27 (d0 : Dev nD) : Nat :=
  let c0_i32_492 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_491 : BitVec 32 := 8#32
  let v509 : BitVec 32 := Scalar.muli v49 c8_i32_491
  let v510 : BitVec 32 := Scalar.addi c0_i32_492 v509
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_493 : BitVec 32 := 4#32
  let v511 : BitVec 32 := Scalar.muli v50 c4_i32_493
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v513 : BitVec 32 := Scalar.muli v8 c1_i32_494
  let v514 : BitVec 32 := Scalar.addi v512 v513
  v514.toNat
def k0_dev28 (d0 : Dev nD) : Nat :=
  let c0_i32_508 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_507 : BitVec 32 := 8#32
  let v532 : BitVec 32 := Scalar.muli v47 c8_i32_507
  let v533 : BitVec 32 := Scalar.addi c0_i32_508 v532
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_509 : BitVec 32 := 4#32
  let v534 : BitVec 32 := Scalar.muli v5 c4_i32_509
  let v535 : BitVec 32 := Scalar.addi v533 v534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_510 : BitVec 32 := 1#32
  let v536 : BitVec 32 := Scalar.muli v8 c1_i32_510
  let v537 : BitVec 32 := Scalar.addi v535 v536
  v537.toNat
def k0_dev29 (d0 : Dev nD) : Nat :=
  let c0_i32_518 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_517 : BitVec 32 := 8#32
  let v544 : BitVec 32 := Scalar.muli v2 c8_i32_517
  let v545 : BitVec 32 := Scalar.addi c0_i32_518 v544
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_519 : BitVec 32 := 4#32
  let v546 : BitVec 32 := Scalar.muli v48 c4_i32_519
  let v547 : BitVec 32 := Scalar.addi v545 v546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520 : BitVec 32 := 1#32
  let v548 : BitVec 32 := Scalar.muli v8 c1_i32_520
  let v549 : BitVec 32 := Scalar.addi v547 v548
  v549.toNat
def k0_dev30 (d0 : Dev nD) : Nat :=
  let c0_i32_528 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_527 : BitVec 32 := 8#32
  let v556 : BitVec 32 := Scalar.muli v49 c8_i32_527
  let v557 : BitVec 32 := Scalar.addi c0_i32_528 v556
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_529 : BitVec 32 := 4#32
  let v558 : BitVec 32 := Scalar.muli v50 c4_i32_529
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_530 : BitVec 32 := 1#32
  let v560 : BitVec 32 := Scalar.muli v8 c1_i32_530
  let v561 : BitVec 32 := Scalar.addi v559 v560
  v561.toNat
def k0_dev31 (d0 : Dev nD) : Nat :=
  let c0_i32_544 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_543 : BitVec 32 := 8#32
  let v579 : BitVec 32 := Scalar.muli v47 c8_i32_543
  let v580 : BitVec 32 := Scalar.addi c0_i32_544 v579
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_545 : BitVec 32 := 4#32
  let v581 : BitVec 32 := Scalar.muli v5 c4_i32_545
  let v582 : BitVec 32 := Scalar.addi v580 v581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_546 : BitVec 32 := 1#32
  let v583 : BitVec 32 := Scalar.muli v8 c1_i32_546
  let v584 : BitVec 32 := Scalar.addi v582 v583
  v584.toNat
def k0_dev32 (d0 : Dev nD) : Nat :=
  let c0_i32_554 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_553 : BitVec 32 := 8#32
  let v591 : BitVec 32 := Scalar.muli v2 c8_i32_553
  let v592 : BitVec 32 := Scalar.addi c0_i32_554 v591
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_555 : BitVec 32 := 4#32
  let v593 : BitVec 32 := Scalar.muli v48 c4_i32_555
  let v594 : BitVec 32 := Scalar.addi v592 v593
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_556 : BitVec 32 := 1#32
  let v595 : BitVec 32 := Scalar.muli v8 c1_i32_556
  let v596 : BitVec 32 := Scalar.addi v594 v595
  v596.toNat
def k0_dev33 (d0 : Dev nD) : Nat :=
  let c0_i32_564 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_563 : BitVec 32 := 8#32
  let v603 : BitVec 32 := Scalar.muli v49 c8_i32_563
  let v604 : BitVec 32 := Scalar.addi c0_i32_564 v603
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_565 : BitVec 32 := 4#32
  let v605 : BitVec 32 := Scalar.muli v50 c4_i32_565
  let v606 : BitVec 32 := Scalar.addi v604 v605
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v607 : BitVec 32 := Scalar.muli v8 c1_i32_566
  let v608 : BitVec 32 := Scalar.addi v606 v607
  v608.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_204 : BitVec 32 := 2#32
  let v273 : BitVec 1 := Scalar.cmpi .eq v8 c2_i32_204
  let v274 : BitVec 32 := Scalar.extui v273
  let c0_i32_211 : BitVec 32 := 0#32
  let v275 : BitVec 1 := Scalar.cmpi .ne v274 c0_i32_211
  v275

def k0_off9 (d0 : Dev nD) : Fin 2 → Nat :=
  let c128_i32 : BitVec 32 := 128#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c128_i32 v10
  let c32_i32 : BitVec 32 := 32#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.muli c32_i32 v8
  let v13 : BitVec 32 := Scalar.addi v11 v12
  let c0_i32_464 : BitVec 32 := 0#32
  ![v13.toNat, 0]
def k0_off10 (d0 : Dev nD) (c32_i32_466 : BitVec 32) : Fin 2 → Nat :=
  let c128_i32 : BitVec 32 := 128#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c128_i32 v10
  let v484 : BitVec 32 := Scalar.addi v11 c32_i32_466
  let c0_i32_475 : BitVec 32 := 0#32
  ![v484.toNat, 0]
def k0_off10_at (r : Fin 3) : BitVec 32 :=
  if r.val < 1 then
    32#32
  else
    if r.val < 2 then
      96#32
    else
      0#32
def k0_dev34 (d0 : Dev nD) : Nat :=
  let c0_i32_472 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_471 : BitVec 32 := 8#32
  let v485 : BitVec 32 := Scalar.muli v47 c8_i32_471
  let v486 : BitVec 32 := Scalar.addi c0_i32_472 v485
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_473 : BitVec 32 := 4#32
  let v487 : BitVec 32 := Scalar.muli v5 c4_i32_473
  let v488 : BitVec 32 := Scalar.addi v486 v487
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_474 : BitVec 32 := 1#32
  let v489 : BitVec 32 := Scalar.muli v8 c1_i32_474
  let v490 : BitVec 32 := Scalar.addi v488 v489
  v490.toNat
def k0_dev35 (d0 : Dev nD) : Nat :=
  let c0_i32_482 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_481 : BitVec 32 := 8#32
  let v497 : BitVec 32 := Scalar.muli v2 c8_i32_481
  let v498 : BitVec 32 := Scalar.addi c0_i32_482 v497
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_483 : BitVec 32 := 4#32
  let v499 : BitVec 32 := Scalar.muli v48 c4_i32_483
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_484 : BitVec 32 := 1#32
  let v501 : BitVec 32 := Scalar.muli v8 c1_i32_484
  let v502 : BitVec 32 := Scalar.addi v500 v501
  v502.toNat
def k0_dev36 (d0 : Dev nD) : Nat :=
  let c0_i32_492 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_491 : BitVec 32 := 8#32
  let v509 : BitVec 32 := Scalar.muli v49 c8_i32_491
  let v510 : BitVec 32 := Scalar.addi c0_i32_492 v509
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_493 : BitVec 32 := 4#32
  let v511 : BitVec 32 := Scalar.muli v50 c4_i32_493
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v513 : BitVec 32 := Scalar.muli v8 c1_i32_494
  let v514 : BitVec 32 := Scalar.addi v512 v513
  v514.toNat
def k0_dev37 (d0 : Dev nD) : Nat :=
  let c0_i32_508 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_507 : BitVec 32 := 8#32
  let v532 : BitVec 32 := Scalar.muli v47 c8_i32_507
  let v533 : BitVec 32 := Scalar.addi c0_i32_508 v532
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_509 : BitVec 32 := 4#32
  let v534 : BitVec 32 := Scalar.muli v5 c4_i32_509
  let v535 : BitVec 32 := Scalar.addi v533 v534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_510 : BitVec 32 := 1#32
  let v536 : BitVec 32 := Scalar.muli v8 c1_i32_510
  let v537 : BitVec 32 := Scalar.addi v535 v536
  v537.toNat
def k0_dev38 (d0 : Dev nD) : Nat :=
  let c0_i32_518 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_517 : BitVec 32 := 8#32
  let v544 : BitVec 32 := Scalar.muli v2 c8_i32_517
  let v545 : BitVec 32 := Scalar.addi c0_i32_518 v544
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_519 : BitVec 32 := 4#32
  let v546 : BitVec 32 := Scalar.muli v48 c4_i32_519
  let v547 : BitVec 32 := Scalar.addi v545 v546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520 : BitVec 32 := 1#32
  let v548 : BitVec 32 := Scalar.muli v8 c1_i32_520
  let v549 : BitVec 32 := Scalar.addi v547 v548
  v549.toNat
def k0_dev39 (d0 : Dev nD) : Nat :=
  let c0_i32_528 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_527 : BitVec 32 := 8#32
  let v556 : BitVec 32 := Scalar.muli v49 c8_i32_527
  let v557 : BitVec 32 := Scalar.addi c0_i32_528 v556
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_529 : BitVec 32 := 4#32
  let v558 : BitVec 32 := Scalar.muli v50 c4_i32_529
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_530 : BitVec 32 := 1#32
  let v560 : BitVec 32 := Scalar.muli v8 c1_i32_530
  let v561 : BitVec 32 := Scalar.addi v559 v560
  v561.toNat
def k0_dev40 (d0 : Dev nD) : Nat :=
  let c0_i32_545 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_544 : BitVec 32 := 8#32
  let v579 : BitVec 32 := Scalar.muli v47 c8_i32_544
  let v580 : BitVec 32 := Scalar.addi c0_i32_545 v579
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_546 : BitVec 32 := 4#32
  let v581 : BitVec 32 := Scalar.muli v5 c4_i32_546
  let v582 : BitVec 32 := Scalar.addi v580 v581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_547 : BitVec 32 := 1#32
  let v583 : BitVec 32 := Scalar.muli v8 c1_i32_547
  let v584 : BitVec 32 := Scalar.addi v582 v583
  v584.toNat
def k0_dev41 (d0 : Dev nD) : Nat :=
  let c0_i32_555 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_554 : BitVec 32 := 8#32
  let v591 : BitVec 32 := Scalar.muli v2 c8_i32_554
  let v592 : BitVec 32 := Scalar.addi c0_i32_555 v591
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_556 : BitVec 32 := 4#32
  let v593 : BitVec 32 := Scalar.muli v48 c4_i32_556
  let v594 : BitVec 32 := Scalar.addi v592 v593
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_557 : BitVec 32 := 1#32
  let v595 : BitVec 32 := Scalar.muli v8 c1_i32_557
  let v596 : BitVec 32 := Scalar.addi v594 v595
  v596.toNat
def k0_dev42 (d0 : Dev nD) : Nat :=
  let c0_i32_565 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_564 : BitVec 32 := 8#32
  let v603 : BitVec 32 := Scalar.muli v49 c8_i32_564
  let v604 : BitVec 32 := Scalar.addi c0_i32_565 v603
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_566 : BitVec 32 := 4#32
  let v605 : BitVec 32 := Scalar.muli v50 c4_i32_566
  let v606 : BitVec 32 := Scalar.addi v604 v605
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v607 : BitVec 32 := Scalar.muli v8 c1_i32_567
  let v608 : BitVec 32 := Scalar.addi v606 v607
  v608.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_212 : BitVec 32 := 3#32
  let v276 : BitVec 1 := Scalar.cmpi .eq v8 c3_i32_212
  let v277 : BitVec 32 := Scalar.extui v276
  let c0_i32_219 : BitVec 32 := 0#32
  let v278 : BitVec 1 := Scalar.cmpi .ne v277 c0_i32_219
  v278

def k0_off11 (d0 : Dev nD) : Fin 2 → Nat :=
  let c128_i32 : BitVec 32 := 128#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c128_i32 v10
  let c32_i32 : BitVec 32 := 32#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.muli c32_i32 v8
  let v13 : BitVec 32 := Scalar.addi v11 v12
  let c0_i32_464 : BitVec 32 := 0#32
  ![v13.toNat, 0]
def k0_off12 (d0 : Dev nD) (c64_i32 : BitVec 32) : Fin 2 → Nat :=
  let c128_i32 : BitVec 32 := 128#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v11 : BitVec 32 := Scalar.muli c128_i32 v10
  let v484 : BitVec 32 := Scalar.addi v11 c64_i32
  let c0_i32_474 : BitVec 32 := 0#32
  ![v484.toNat, 0]
def k0_dev43 (d0 : Dev nD) : Nat :=
  let c0_i32_471 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_470 : BitVec 32 := 8#32
  let v485 : BitVec 32 := Scalar.muli v47 c8_i32_470
  let v486 : BitVec 32 := Scalar.addi c0_i32_471 v485
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_472 : BitVec 32 := 4#32
  let v487 : BitVec 32 := Scalar.muli v5 c4_i32_472
  let v488 : BitVec 32 := Scalar.addi v486 v487
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_473 : BitVec 32 := 1#32
  let v489 : BitVec 32 := Scalar.muli v8 c1_i32_473
  let v490 : BitVec 32 := Scalar.addi v488 v489
  v490.toNat
def k0_dev44 (d0 : Dev nD) : Nat :=
  let c0_i32_481 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_480 : BitVec 32 := 8#32
  let v497 : BitVec 32 := Scalar.muli v2 c8_i32_480
  let v498 : BitVec 32 := Scalar.addi c0_i32_481 v497
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_482 : BitVec 32 := 4#32
  let v499 : BitVec 32 := Scalar.muli v48 c4_i32_482
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_483 : BitVec 32 := 1#32
  let v501 : BitVec 32 := Scalar.muli v8 c1_i32_483
  let v502 : BitVec 32 := Scalar.addi v500 v501
  v502.toNat
def k0_dev45 (d0 : Dev nD) : Nat :=
  let c0_i32_491 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_490 : BitVec 32 := 8#32
  let v509 : BitVec 32 := Scalar.muli v49 c8_i32_490
  let v510 : BitVec 32 := Scalar.addi c0_i32_491 v509
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_492 : BitVec 32 := 4#32
  let v511 : BitVec 32 := Scalar.muli v50 c4_i32_492
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_493 : BitVec 32 := 1#32
  let v513 : BitVec 32 := Scalar.muli v8 c1_i32_493
  let v514 : BitVec 32 := Scalar.addi v512 v513
  v514.toNat
def k0_dev46 (d0 : Dev nD) : Nat :=
  let c0_i32_508 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_507 : BitVec 32 := 8#32
  let v532 : BitVec 32 := Scalar.muli v47 c8_i32_507
  let v533 : BitVec 32 := Scalar.addi c0_i32_508 v532
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_509 : BitVec 32 := 4#32
  let v534 : BitVec 32 := Scalar.muli v5 c4_i32_509
  let v535 : BitVec 32 := Scalar.addi v533 v534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_510 : BitVec 32 := 1#32
  let v536 : BitVec 32 := Scalar.muli v8 c1_i32_510
  let v537 : BitVec 32 := Scalar.addi v535 v536
  v537.toNat
def k0_dev47 (d0 : Dev nD) : Nat :=
  let c0_i32_518 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_517 : BitVec 32 := 8#32
  let v544 : BitVec 32 := Scalar.muli v2 c8_i32_517
  let v545 : BitVec 32 := Scalar.addi c0_i32_518 v544
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_519 : BitVec 32 := 4#32
  let v546 : BitVec 32 := Scalar.muli v48 c4_i32_519
  let v547 : BitVec 32 := Scalar.addi v545 v546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520 : BitVec 32 := 1#32
  let v548 : BitVec 32 := Scalar.muli v8 c1_i32_520
  let v549 : BitVec 32 := Scalar.addi v547 v548
  v549.toNat
def k0_dev48 (d0 : Dev nD) : Nat :=
  let c0_i32_528 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_527 : BitVec 32 := 8#32
  let v556 : BitVec 32 := Scalar.muli v49 c8_i32_527
  let v557 : BitVec 32 := Scalar.addi c0_i32_528 v556
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_529 : BitVec 32 := 4#32
  let v558 : BitVec 32 := Scalar.muli v50 c4_i32_529
  let v559 : BitVec 32 := Scalar.addi v557 v558
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_530 : BitVec 32 := 1#32
  let v560 : BitVec 32 := Scalar.muli v8 c1_i32_530
  let v561 : BitVec 32 := Scalar.addi v559 v560
  v561.toNat
def k0_dev49 (d0 : Dev nD) : Nat :=
  let c0_i32_545 : BitVec 32 := 0#32
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v47 : BitVec 32 := Scalar.subi c1_i32_22 v2
  let c8_i32_544 : BitVec 32 := 8#32
  let v579 : BitVec 32 := Scalar.muli v47 c8_i32_544
  let v580 : BitVec 32 := Scalar.addi c0_i32_545 v579
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_546 : BitVec 32 := 4#32
  let v581 : BitVec 32 := Scalar.muli v5 c4_i32_546
  let v582 : BitVec 32 := Scalar.addi v580 v581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_547 : BitVec 32 := 1#32
  let v583 : BitVec 32 := Scalar.muli v8 c1_i32_547
  let v584 : BitVec 32 := Scalar.addi v582 v583
  v584.toNat
def k0_dev50 (d0 : Dev nD) : Nat :=
  let c0_i32_555 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_554 : BitVec 32 := 8#32
  let v591 : BitVec 32 := Scalar.muli v2 c8_i32_554
  let v592 : BitVec 32 := Scalar.addi c0_i32_555 v591
  let c1_i32_23 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v48 : BitVec 32 := Scalar.subi c1_i32_23 v5
  let c4_i32_556 : BitVec 32 := 4#32
  let v593 : BitVec 32 := Scalar.muli v48 c4_i32_556
  let v594 : BitVec 32 := Scalar.addi v592 v593
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_557 : BitVec 32 := 1#32
  let v595 : BitVec 32 := Scalar.muli v8 c1_i32_557
  let v596 : BitVec 32 := Scalar.addi v594 v595
  v596.toNat
def k0_dev51 (d0 : Dev nD) : Nat :=
  let c0_i32_565 : BitVec 32 := 0#32
  let c1_i32_24 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v49 : BitVec 32 := Scalar.subi c1_i32_24 v2
  let c8_i32_564 : BitVec 32 := 8#32
  let v603 : BitVec 32 := Scalar.muli v49 c8_i32_564
  let v604 : BitVec 32 := Scalar.addi c0_i32_565 v603
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v50 : BitVec 32 := Scalar.subi c1_i32_25 v5
  let c4_i32_566 : BitVec 32 := 4#32
  let v605 : BitVec 32 := Scalar.muli v50 c4_i32_566
  let v606 : BitVec 32 := Scalar.addi v604 v605
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v607 : BitVec 32 := Scalar.muli v8 c1_i32_567
  let v608 : BitVec 32 := Scalar.addi v606 v607
  v608.toNat
abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x512x512 : Shape := ⟨3, ![4, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x512, .f32⟩
  | .hbm, ⟨18, _⟩ => ⟨S512x512, .f32⟩
  | .hbm, ⟨19, _⟩ => ⟨S1x512, .f32⟩
  | .hbm, ⟨20, _⟩ => ⟨S512x512, .f32⟩
  | .hbm, ⟨21, _⟩ => ⟨S512x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Wiring.lean ====
/-
  WHO TALKS TO WHOM. The sixteen devices form four groups of four: device `c` is member `c % 4` of group `c / 4`.
  A device has six peers: the three others of its group (peers 0, 1, 2) and its three counterparts in the other groups
  (peers 3, 4, 5). It makes eighteen transfers, numbered here in the order the program starts them:
    0–2    its partial rows, one block to each peer of its group;
    3–5    its finished piece, to each peer of its group;
    6–8    its finished piece, to each counterpart;
    9–17   the three pieces its group's peers finished, each to each counterpart.
  Everything here is arithmetic on device numbers, checked at all of them.
-/
module

public import proofs.«01_k».proof.Proof.Gen.KernelIdeal.Skeleton
public import Idealize.ShloMosaic.Lib.Tactic

@[expose] public section

noncomputable section

namespace Cert.Proof

open Cert.KernelIdeal Cert.KernelIdeal.Gen
open Idealize.ShloMosaic Idealize.ShloMosaic.TcCoe

/-- The peer of `c` of number `i`. -/
def peer (i : Fin 6) (c : Dev nD) : Dev nD :=
  ⟨(if i.val < 3 then 4 * (c.val / 4) + (c.val % 4 + i.val + 1) % 4
    else 4 * ((c.val / 4) ^^^ (![0, 0, 0, 2, 1, 3] i)) + c.val % 4) % 16, Nat.mod_lt _ (by decide)⟩

/-- Which peer of `c`'s peer `i` the device `c` is. -/
def back (i : Fin 6) : Fin 6 := ![2, 1, 0, 3, 4, 5] i

theorem peer_back : ∀ i c, peer i (peer (back i) c) = c := by decide +kernel
theorem back_peer : ∀ i c, peer (back i) (peer i c) = c := by decide +kernel
theorem back_back : ∀ i, back (back i) = i := by decide

/-- The passage to peer `i` permutes the devices. -/
def peerEquiv (i : Fin 6) : Dev nD ≃ Dev nD := ⟨peer i, peer (back i), back_peer i, peer_back i⟩

/-- The peer transfer `x` goes to. -/
def px (x : Fin 18) : Fin 6 := ![0, 1, 2, 0, 1, 2, 3, 4, 5, 3, 4, 5, 3, 4, 5, 3, 4, 5] x

/-- The device transfer `x` of `c` goes to, -/
abbrev tgt (x : Fin 18) (c : Dev nD) : Dev nD := peer (px x) c
/-- the device whose transfer `x` comes to `c`. -/
abbrev frm (x : Fin 18) (c : Dev nD) : Dev nD := peer (back (px x)) c

theorem tgt_frm (x : Fin 18) (c : Dev nD) : tgt x (frm x c) = c := peer_back _ _
theorem frm_tgt (x : Fin 18) (c : Dev nD) : frm x (tgt x c) = c := back_peer _ _

/-- The member of its group whose piece `c` passes on in its `k`-th turn. -/
def turn (c : Dev nD) (k : Fin 3) : Dev nD :=
  ⟨(4 * (c.val / 4) + (![![1, 2, 3], ![0, 2, 3], ![1, 3, 0], ![2, 1, 0]] : Fin 4 → Fin 3 → ℕ) ⟨c.val % 4, Nat.mod_lt _ (by decide)⟩ k) % 16,
    Nat.mod_lt _ (by decide)⟩

/-- The peer of its group `c` has that piece from, by the number of the arrival. -/
def arrival (c : Dev nD) (k : Fin 3) : Fin 3 :=
  (![![2, 1, 0], ![0, 2, 1], ![0, 2, 1], ![0, 1, 2]] : Fin 4 → Fin 3 → Fin 3) ⟨c.val % 4, Nat.mod_lt _ (by decide)⟩ k

/-- The piece transfer `x` of `c` carries (for `x` from 3 on). -/
def piece (x : Fin 18) (c : Dev nD) : Dev nD :=
  if x.val < 9 then c else turn c (⟨(x.val - 9) / 3 % 3, Nat.mod_lt _ (by decide)⟩)

/-- Transfer number `3 + j`: the finished piece to the group's peer `j`. -/
abbrev x3 (j : Fin 3) : Fin 18 := ⟨3 + j.val, by omega⟩

theorem turn_arrival : ∀ c k, frm (x3 (arrival c k)) c = turn c k := by decide +kernel

/-- The source of a partial block's transfer, as the number of the block: the member it is for. -/
def rowsOf (i : Fin 3) (c : Dev nD) : Fin 4 := ⟨(c.val % 4 + i.val + 1) % 4, Nat.mod_lt _ (by decide)⟩
/-- The block of its own, -/
def ownRows (c : Dev nD) : Fin 4 := ⟨c.val % 4, Nat.mod_lt _ (by decide)⟩

/-! ### Semaphores -/

/-- The semaphore transfer `x` credits at its source, -/
def sndS (x : Fin 18) : DmaSem sig := (![4, 5, 6, 10, 11, 12, 16, 20, 24, 17, 21, 25, 18, 22, 26, 19, 23, 27] : Fin 18 → Fin 40) x
/-- and at its destination. -/
def rcvS (x : Fin 18) : DmaSem sig := (![7, 8, 9, 13, 14, 15, 28, 32, 36, 29, 33, 37, 30, 34, 38, 31, 35, 39] : Fin 18 → Fin 40) x

/-- What a semaphore is for: a staging buffer's (`none`), a transfer's source (`false`) or destination (`true`). -/
def useOf (s : DmaSem sig) : Option (Bool × Fin 18) :=
  (![none, none, none, none, some (false, 0), some (false, 1), some (false, 2), some (true, 0), some (true, 1), some (true, 2),
    some (false, 3), some (false, 4), some (false, 5), some (true, 3), some (true, 4), some (true, 5),
    some (false, 6), some (false, 9), some (false, 12), some (false, 15), some (false, 7), some (false, 10), some (false, 13), some (false, 16),
    some (false, 8), some (false, 11), some (false, 14), some (false, 17),
    some (true, 6), some (true, 9), some (true, 12), some (true, 15), some (true, 7), some (true, 10), some (true, 13), some (true, 16),
    some (true, 8), some (true, 11), some (true, 14), some (true, 17)] : Fin 40 → Option (Bool × Fin 18)) s

theorem useOf_snd : ∀ x, useOf (sndS x) = some (false, x) := by decide +kernel
theorem useOf_rcv : ∀ x, useOf (rcvS x) = some (true, x) := by decide +kernel
theorem useOf_some : ∀ s b x, useOf s = some (b, x) → s = if b then rcvS x else sndS x := by decide +kernel

abbrev barS : Sem sig := (0 : Fin 1)

theorem snd_inj : Function.Injective sndS := fun a b h => by
  have := congrArg useOf h; rw [useOf_snd, useOf_snd] at this; exact (Prod.mk.inj (Option.some.inj this)).2
theorem rcv_inj : Function.Injective rcvS := fun a b h => by
  have := congrArg useOf h; rw [useOf_rcv, useOf_rcv] at this; exact (Prod.mk.inj (Option.some.inj this)).2
theorem snd_ne_rcv (x y : Fin 18) : sndS x ≠ rcvS y := fun h => by
  have := congrArg useOf h; rw [useOf_snd, useOf_rcv] at this; exact absurd (Prod.mk.inj (Option.some.inj this)).1 (by decide)

/-! ### The printed device chains -/

theorem dev1 (c : Dev nD) : (⟨k0_dev1 c, k0_dev1_lt c⟩ : Dev nD) = peer 0 c := Fin.ext ((by decide +kernel : ∀ c : Dev nD, k0_dev1 c = (peer 0 c).val) c)
theorem dev2 (c : Dev nD) : (⟨k0_dev2 c, k0_dev2_lt c⟩ : Dev nD) = peer 1 c := Fin.ext ((by decide +kernel : ∀ c : Dev nD, k0_dev2 c = (peer 1 c).val) c)
theorem dev3 (c : Dev nD) : (⟨k0_dev3 c, k0_dev3_lt c⟩ : Dev nD) = peer 2 c := Fin.ext ((by decide +kernel : ∀ c : Dev nD, k0_dev3 c = (peer 2 c).val) c)
theorem dev4 (c : Dev nD) : (⟨k0_dev4 c, k0_dev4_lt c⟩ : Dev nD) = peer 3 c := Fin.ext ((by decide +kernel : ∀ c : Dev nD, k0_dev4 c = (peer 3 c).val) c)
theorem dev5 (c : Dev nD) : (⟨k0_dev5 c, k0_dev5_lt c⟩ : Dev nD) = peer 4 c := Fin.ext ((by decide +kernel : ∀ c : Dev nD, k0_dev5 c = (peer 4 c).val) c)
theorem dev6 (c : Dev nD) : (⟨k0_dev6 c, k0_dev6_lt c⟩ : Dev nD) = peer 5 c := Fin.ext ((by decide +kernel : ∀ c : Dev nD, k0_dev6 c = (peer 5 c).val) c)
theorem dev7 (c : Dev nD) : (⟨k0_dev7 c, k0_dev7_lt c⟩ : Dev nD) = tgt 0 c := Fin.ext ((by decide +kernel : ∀ c : Dev nD, k0_dev7 c = (tgt 0 c).val) c)
theorem dev8 (c : Dev nD) : (⟨k0_dev8 c, k0_dev8_lt c⟩ : Dev nD) = tgt 1 c := Fin.ext ((by decide +kernel : ∀ c : Dev nD, k0_dev8 c = (tgt 1 c).val) c)
theorem dev9 (c : Dev nD) : (⟨k0_dev9 c, k0_dev9_lt c⟩ : Dev nD) = tgt 2 c := Fin.ext ((by decide +kernel : ∀ c : Dev nD, k0_dev9 c = (tgt 2 c).val) c)
theorem dev10 (c : Dev nD) : (⟨k0_dev10 c, k0_dev10_lt c⟩ : Dev nD) = tgt 3 c := Fin.ext ((by decide +kernel : ∀ c : Dev nD, k0_dev10 c = (tgt 3 c).val) c)
theorem dev11 (c : Dev nD) : (⟨k0_dev11 c, k0_dev11_lt c⟩ : Dev nD) = tgt 4 c := Fin.ext ((by decide +kernel : ∀ c : Dev nD, k0_dev11 c = (tgt 4 c).val) c)
theorem dev12 (c : Dev nD) : (⟨k0_dev12 c, k0_dev12_lt c⟩ : Dev nD) = tgt 5 c := Fin.ext ((by decide +kernel : ∀ c : Dev nD, k0_dev12 c = (tgt 5 c).val) c)
theorem dev13 (c : Dev nD) : (⟨k0_dev13 c, k0_dev13_lt c⟩ : Dev nD) = tgt 6 c := Fin.ext ((by decide +kernel : ∀ c : Dev nD, k0_dev13 c = (tgt 6 c).val) c)
theorem dev14 (c : Dev nD) : (⟨k0_dev14 c, k0_dev14_lt c⟩ : Dev nD) = tgt 7 c := Fin.ext ((by decide +kernel : ∀ c : Dev nD, k0_dev14 c = (tgt 7 c).val) c)
theorem dev15 (c : Dev nD) : (⟨k0_dev15 c, k0_dev15_lt c⟩ : Dev nD) = tgt 8 c := Fin.ext ((by decide +kernel : ∀ c : Dev nD, k0_dev15 c = (tgt 8 c).val) c)
theorem dev16 (c : Dev nD) (h : k0_cond1 c = 1#1) : (⟨k0_dev16 c, k0_dev16_lt c h⟩ : Dev nD) = tgt 9 c := Fin.ext ((by decide +kernel : ∀ c : Dev nD, k0_cond1 c = 1#1 → k0_dev16 c = (tgt 9 c).val) c h)
theorem dev17 (c : Dev nD) (h : k0_cond1 c = 1#1) : (⟨k0_dev17 c, k0_dev17_lt c h⟩ : Dev nD) = tgt 10 c := Fin.ext ((by decide +kernel : ∀ c : Dev nD, k0_cond1 c = 1#1 → k0_dev17 c = (tgt 10 c).val) c h)
theorem dev18 (c : Dev nD) (h : k0_cond1 c = 1#1) : (⟨k0_dev18 c, k0_dev18_lt c h⟩ : Dev nD) = tgt 11 c := Fin.ext ((by decide +kernel : ∀ c : Dev nD, k0_cond1 c = 1#1 → k0_dev18 c = (tgt 11 c).val) c h)
theorem dev19 (c : Dev nD) (h : k0_cond1 c = 1#1) : (⟨k0_dev19 c, k0_dev19_lt c h⟩ : Dev nD) = tgt 12 c := Fin.ext ((by decide +kernel : ∀ c : Dev nD, k0_cond1 c = 1#1 → k0_dev19 c = (tgt 12 c).val) c h)
theorem dev20 (c : Dev nD) (h : k0_cond1 c = 1#1) : (⟨k0_dev20 c, k0_dev20_lt c h⟩ : Dev nD) = tgt 13 c := Fin.ext ((by decide +kernel : ∀ c : Dev nD, k0_cond1 c = 1#1 → k0_dev20 c = (tgt 13 c).val) c h)
theorem dev21 (c : Dev nD) (h : k0_cond1 c = 1#1) : (⟨k0_dev21 c, k0_dev21_lt c h⟩ : Dev nD) = tgt 14 c := Fin.ext ((by decide +kernel : ∀ c : Dev nD, k0_cond1 c = 1#1 → k0_dev21 c = (tgt 14 c).val) c h)
theorem dev22 (c : Dev nD) (h : k0_cond1 c = 1#1) : (⟨k0_dev22 c, k0_dev22_lt c h⟩ : Dev nD) = tgt 15 c := Fin.ext ((by decide +kernel : ∀ c : Dev nD, k0_cond1 c = 1#1 → k0_dev22 c = (tgt 15 c).val) c h)
theorem dev23 (c : Dev nD) (h : k0_cond1 c = 1#1) : (⟨k0_dev23 c, k0_dev23_lt c h⟩ : Dev nD) = tgt 16 c := Fin.ext ((by decide +kernel : ∀ c : Dev nD, k0_cond1 c = 1#1 → k0_dev23 c = (tgt 16 c).val) c h)
theorem dev24 (c : Dev nD) (h : k0_cond1 c = 1#1) : (⟨k0_dev24 c, k0_dev24_lt c h⟩ : Dev nD) = tgt 17 c := Fin.ext ((by decide +kernel : ∀ c : Dev nD, k0_cond1 c = 1#1 → k0_dev24 c = (tgt 17 c).val) c h)
theorem dev25 (c : Dev nD) (h : k0_cond2 c = 1#1) : (⟨k0_dev25 c, k0_dev25_lt c h⟩ : Dev nD) = tgt 9 c := Fin.ext ((by decide +kernel : ∀ c : Dev nD, k0_cond2 c = 1#1 → k0_dev25 c = (tgt 9 c).val) c h)
theorem dev26 (c : Dev nD) (h : k0_cond2 c = 1#1) : (⟨k0_dev26 c, k0_dev26_lt c h⟩ : Dev nD) = tgt 10 c := Fin.ext ((by decide +kernel : ∀ c : Dev nD, k0_cond2 c = 1#1 → k0_dev26 c = (tgt 10 c).val) c h)
theorem dev27 (c : Dev nD) (h : k0_cond2 c = 1#1) : (⟨k0_dev27 c, k0_dev27_lt c h⟩ : Dev nD) = tgt 11 c := Fin.ext ((by decide +kernel : ∀ c : Dev nD, k0_cond2 c = 1#1 → k0_dev27 c = (tgt 11 c).val) c h)
theorem dev28 (c : Dev nD) (h : k0_cond2 c = 1#1) : (⟨k0_dev28 c, k0_dev28_lt c h⟩ : Dev nD) = tgt 12 c := Fin.ext ((by decide +kernel : ∀ c : Dev nD, k0_cond2 c = 1#1 → k0_dev28 c = (tgt 12 c).val) c h)
theorem dev29 (c : Dev nD) (h : k0_cond2 c = 1#1) : (⟨k0_dev29 c, k0_dev29_lt c h⟩ : Dev nD) = tgt 13 c := Fin.ext ((by decide +kernel : ∀ c : Dev nD, k0_cond2 c = 1#1 → k0_dev29 c = (tgt 13 c).val) c h)
theorem dev30 (c : Dev nD) (h : k0_cond2 c = 1#1) : (⟨k0_dev30 c, k0_dev30_lt c h⟩ : Dev nD) = tgt 14 c := Fin.ext ((by decide +kernel : ∀ c : Dev nD, k0_cond2 c = 1#1 → k0_dev30 c = (tgt 14 c).val) c h)
theorem dev31 (c : Dev nD) (h : k0_cond2 c = 1#1) : (⟨k0_dev31 c, k0_dev31_lt c h⟩ : Dev nD) = tgt 15 c := Fin.ext ((by decide +kernel : ∀ c : Dev nD, k0_cond2 c = 1#1 → k0_dev31 c = (tgt 15 c).val) c h)
theorem dev32 (c : Dev nD) (h : k0_cond2 c = 1#1) : (⟨k0_dev32 c, k0_dev32_lt c h⟩ : Dev nD) = tgt 16 c := Fin.ext ((by decide +kernel : ∀ c : Dev nD, k0_cond2 c = 1#1 → k0_dev32 c = (tgt 16 c).val) c h)
theorem dev33 (c : Dev nD) (h : k0_cond2 c = 1#1) : (⟨k0_dev33 c, k0_dev33_lt c h⟩ : Dev nD) = tgt 17 c := Fin.ext ((by decide +kernel : ∀ c : Dev nD, k0_cond2 c = 1#1 → k0_dev33 c = (tgt 17 c).val) c h)
theorem dev34 (c : Dev nD) (h : k0_cond3 c = 1#1) : (⟨k0_dev34 c, k0_dev34_lt c h⟩ : Dev nD) = tgt 9 c := Fin.ext ((by decide +kernel : ∀ c : Dev nD, k0_cond3 c = 1#1 → k0_dev34 c = (tgt 9 c).val) c h)
theorem dev35 (c : Dev nD) (h : k0_cond3 c = 1#1) : (⟨k0_dev35 c, k0_dev35_lt c h⟩ : Dev nD) = tgt 10 c := Fin.ext ((by decide +kernel : ∀ c : Dev nD, k0_cond3 c = 1#1 → k0_dev35 c = (tgt 10 c).val) c h)
theorem dev36 (c : Dev nD) (h : k0_cond3 c = 1#1) : (⟨k0_dev36 c, k0_dev36_lt c h⟩ : Dev nD) = tgt 11 c := Fin.ext ((by decide +kernel : ∀ c : Dev nD, k0_cond3 c = 1#1 → k0_dev36 c = (tgt 11 c).val) c h)
theorem dev37 (c : Dev nD) (h : k0_cond3 c = 1#1) : (⟨k0_dev37 c, k0_dev37_lt c h⟩ : Dev nD) = tgt 12 c := Fin.ext ((by decide +kernel : ∀ c : Dev nD, k0_cond3 c = 1#1 → k0_dev37 c = (tgt 12 c).val) c h)
theorem dev38 (c : Dev nD) (h : k0_cond3 c = 1#1) : (⟨k0_dev38 c, k0_dev38_lt c h⟩ : Dev nD) = tgt 13 c := Fin.ext ((by decide +kernel : ∀ c : Dev nD, k0_cond3 c = 1#1 → k0_dev38 c = (tgt 13 c).val) c h)
theorem dev39 (c : Dev nD) (h : k0_cond3 c = 1#1) : (⟨k0_dev39 c, k0_dev39_lt c h⟩ : Dev nD) = tgt 14 c := Fin.ext ((by decide +kernel : ∀ c : Dev nD, k0_cond3 c = 1#1 → k0_dev39 c = (tgt 14 c).val) c h)
theorem dev40 (c : Dev nD) (h : k0_cond3 c = 1#1) : (⟨k0_dev40 c, k0_dev40_lt c h⟩ : Dev nD) = tgt 15 c := Fin.ext ((by decide +kernel : ∀ c : Dev nD, k0_cond3 c = 1#1 → k0_dev40 c = (tgt 15 c).val) c h)
theorem dev41 (c : Dev nD) (h : k0_cond3 c = 1#1) : (⟨k0_dev41 c, k0_dev41_lt c h⟩ : Dev nD) = tgt 16 c := Fin.ext ((by decide +kernel : ∀ c : Dev nD, k0_cond3 c = 1#1 → k0_dev41 c = (tgt 16 c).val) c h)
theorem dev42 (c : Dev nD) (h : k0_cond3 c = 1#1) : (⟨k0_dev42 c, k0_dev42_lt c h⟩ : Dev nD) = tgt 17 c := Fin.ext ((by decide +kernel : ∀ c : Dev nD, k0_cond3 c = 1#1 → k0_dev42 c = (tgt 17 c).val) c h)
theorem dev43 (c : Dev nD) (h : k0_cond4 c = 1#1) : (⟨k0_dev43 c, k0_dev43_lt c h⟩ : Dev nD) = tgt 9 c := Fin.ext ((by decide +kernel : ∀ c : Dev nD, k0_cond4 c = 1#1 → k0_dev43 c = (tgt 9 c).val) c h)
theorem dev44 (c : Dev nD) (h : k0_cond4 c = 1#1) : (⟨k0_dev44 c, k0_dev44_lt c h⟩ : Dev nD) = tgt 10 c := Fin.ext ((by decide +kernel : ∀ c : Dev nD, k0_cond4 c = 1#1 → k0_dev44 c = (tgt 10 c).val) c h)
theorem dev45 (c : Dev nD) (h : k0_cond4 c = 1#1) : (⟨k0_dev45 c, k0_dev45_lt c h⟩ : Dev nD) = tgt 11 c := Fin.ext ((by decide +kernel : ∀ c : Dev nD, k0_cond4 c = 1#1 → k0_dev45 c = (tgt 11 c).val) c h)
theorem dev46 (c : Dev nD) (h : k0_cond4 c = 1#1) : (⟨k0_dev46 c, k0_dev46_lt c h⟩ : Dev nD) = tgt 12 c := Fin.ext ((by decide +kernel : ∀ c : Dev nD, k0_cond4 c = 1#1 → k0_dev46 c = (tgt 12 c).val) c h)
theorem dev47 (c : Dev nD) (h : k0_cond4 c = 1#1) : (⟨k0_dev47 c, k0_dev47_lt c h⟩ : Dev nD) = tgt 13 c := Fin.ext ((by decide +kernel : ∀ c : Dev nD, k0_cond4 c = 1#1 → k0_dev47 c = (tgt 13 c).val) c h)
theorem dev48 (c : Dev nD) (h : k0_cond4 c = 1#1) : (⟨k0_dev48 c, k0_dev48_lt c h⟩ : Dev nD) = tgt 14 c := Fin.ext ((by decide +kernel : ∀ c : Dev nD, k0_cond4 c = 1#1 → k0_dev48 c = (tgt 14 c).val) c h)
theorem dev49 (c : Dev nD) (h : k0_cond4 c = 1#1) : (⟨k0_dev49 c, k0_dev49_lt c h⟩ : Dev nD) = tgt 15 c := Fin.ext ((by decide +kernel : ∀ c : Dev nD, k0_cond4 c = 1#1 → k0_dev49 c = (tgt 15 c).val) c h)
theorem dev50 (c : Dev nD) (h : k0_cond4 c = 1#1) : (⟨k0_dev50 c, k0_dev50_lt c h⟩ : Dev nD) = tgt 16 c := Fin.ext ((by decide +kernel : ∀ c : Dev nD, k0_cond4 c = 1#1 → k0_dev50 c = (tgt 16 c).val) c h)
theorem dev51 (c : Dev nD) (h : k0_cond4 c = 1#1) : (⟨k0_dev51 c, k0_dev51_lt c h⟩ : Dev nD) = tgt 17 c := Fin.ext ((by decide +kernel : ∀ c : Dev nD, k0_cond4 c = 1#1 → k0_dev51 c = (tgt 17 c).val) c h)

end Cert.Proof
-- ==== Proof.Views.lean ====
/-
  THE BLOCKS a transfer moves, and what they hold. Every transfer moves 32 rows of 512 elements: from a device's partial
  rows (the first staging buffer, cut in four blocks) into a slot of a peer's scratch buffer (three slots), or from a
  piece of its result buffer (cut in sixteen pieces, piece `d` the one device `d` finishes) into the same piece of a
  peer's. The contents are written over what the devices' first three staging buffers hold on entry.
-/
module

public import proofs.«01_k».proof.Proof.Wiring

@[expose] public section

noncomputable section

namespace Cert.Proof

open Cert.KernelIdeal Cert.KernelIdeal.Gen
open Idealize.ShloMosaic Idealize.ShloMosaic.TcCoe

variable {F : FTy → Type} [FloatOps F]

/-! ### The buffers and their blocks -/

abbrev M0 : Memref sig .tc .vmem S128x512 .f32 := Memref.whole cc0_stg0_0
abbrev M1 : Memref sig .tc .vmem S32x512 .f32 := Memref.whole cc0_stg1_0
abbrev M2 : Memref sig .tc .vmem S1x512 .f32 := Memref.whole cc0_stg2_0
abbrev M3 : Memref sig .tc .vmem S512x512 .f32 := Memref.whole cc0_stg3_0
abbrev M4 : Memref sig .tc .vmem S3x32x512 .f32 := Memref.whole cc0_scratch0

theorem rows_inb : ∀ (t : Fin 4) (a : Fin 2), (![32 * t.val, 0] : Fin 2 → ℕ) a + S32x512.size a ≤ S128x512.size a := by decide
theorem out_inb : ∀ (d : Fin 16) (a : Fin 2), (![32 * d.val, 0] : Fin 2 → ℕ) a + S32x512.size a ≤ S512x512.size a := by decide
theorem slot_inb : ∀ (i : Fin 3) (a : Fin 3), (![i.val, 0, 0] : Fin 3 → ℕ) a + S1x32x512.size a ≤ S3x32x512.size a := by decide

/-- Block `t` of a partial, piece `d` of a result, slot `i` of the scratch buffer. -/
abbrev rowsR (t : Fin 4) : Rect S128x512 := Rect.unit (s := S128x512) ![32 * t.val, 0] S32x512.size (rows_inb t)
abbrev outR (d : Dev nD) : Rect S512x512 := Rect.unit (s := S512x512) ![32 * d.val, 0] S32x512.size (out_inb d)
abbrev slotR (i : Fin 3) : Rect S3x32x512 := Rect.unit (s := S3x32x512) ![i.val, 0, 0] S1x32x512.size (slot_inb i)

abbrev rowsM (t : Fin 4) : Memref sig .tc .vmem S32x512 .f32 := M0.slice (rowsR t) (fun _ => rfl)
abbrev outM (d : Dev nD) : Memref sig .tc .vmem S32x512 .f32 := M3.slice (outR d) (fun _ => rfl)
abbrev slotM (i : Fin 3) : Memref sig .tc .vmem S32x512 .f32 :=
  (M4.slice (slotR i) (fun _ => rfl)).squeeze S32x512 squeezes_S1x32x512_S32x512

/-- What transfer `x` of `c` reads, -/
def srcM (x : Fin 18) (c : Dev nD) : Memref sig .tc .vmem S32x512 .f32 :=
  if h : x.val < 3 then rowsM (rowsOf ⟨x.val, h⟩ c) else outM (piece x c)
/-- and what it writes, on the device it goes to. -/
def dstM (x : Fin 18) (c : Dev nD) : Memref sig .tc .vmem S32x512 .f32 :=
  if h : x.val < 3 then slotM ⟨x.val, h⟩ else outM (piece x c)

/-- The credit of every transfer. -/
abbrev N : ℕ := M1.view.dmaCredit
theorem N_pos : 0 < N := View.dmaCredit_pos _ (by decide)
theorem credit_src (x : Fin 18) (c : Dev nD) : (srcM x c).view.dmaCredit = N := by unfold srcM; split <;> rfl
theorem credit_dst (x : Fin 18) (c : Dev nD) : (dstM x c).view.dmaCredit = N := by unfold dstM; split <;> rfl

/-! ### The printed views -/

theorem rows_of {off : Fin 2 → ℕ} (t : Fin 4) (h : off = ![32 * t.val, 0]) (hi : ∀ a, off a + S32x512.size a ≤ S128x512.size a)
    (hs : ∀ a, (Rect.unit (s := S128x512) off S32x512.size hi).stride a = 1) :
    (M0.slice (Rect.unit (s := S128x512) off S32x512.size hi) hs : Memref sig .tc .vmem S32x512 .f32) = rowsM t := by subst h; rfl
theorem out_of {off : Fin 2 → ℕ} (d : Dev nD) (h : off = ![32 * d.val, 0]) (hi : ∀ a, off a + S32x512.size a ≤ S512x512.size a)
    (hs : ∀ a, (Rect.unit (s := S512x512) off S32x512.size hi).stride a = 1) :
    (M3.slice (Rect.unit (s := S512x512) off S32x512.size hi) hs : Memref sig .tc .vmem S32x512 .f32) = outM d := by subst h; rfl

theorem off1_eq : ∀ (c : Dev nD) (i : Fin 3), k0_off1 c (BitVec.ofNat 32 (1 + i.val)) = ![32 * (rowsOf i c).val, 0] := by decide +kernel
theorem off2_eq : ∀ c : Dev nD, k0_off2 c = ![32 * (ownRows c).val, 0] := by decide +kernel
theorem off3_eq : ∀ c : Dev nD, k0_off3 c = ![32 * c.val, 0] := by decide +kernel
theorem off4_eq : ∀ c : Dev nD, k0_off4 c = ![32 * c.val, 0] := by decide +kernel
theorem off6_eq : ∀ c : Dev nD, k0_cond1 c = 1#1 → ∀ k : Fin 3,
    k0_off6 c (BitVec.ofNat 32 (![32, 64, 96] k)) = ![32 * (turn c k).val, 0] := by decide +kernel
theorem off8_eq : ∀ c : Dev nD, k0_cond2 c = 1#1 → ∀ k : Fin 3,
    k0_off8 c (BitVec.ofNat 32 (![0, 64, 96] k)) = ![32 * (turn c k).val, 0] := by decide +kernel
theorem off10_eq : ∀ c : Dev nD, k0_cond3 c = 1#1 → ∀ k : Fin 3,
    k0_off10 c (BitVec.ofNat 32 (![32, 96, 0] k)) = ![32 * (turn c k).val, 0] := by decide +kernel
theorem off12_eq : ∀ c : Dev nD, k0_cond4 c = 1#1 → ∀ k : Fin 3,
    k0_off12 c (BitVec.ofNat 32 (![64, 32, 0] k)) = ![32 * (turn c k).val, 0] := by decide +kernel

/-! ### The contents -/

/-- The slot's contents as the scratch buffer's load reads them. -/
abbrev expand (X : S32x512.Idx → Elt F .f32) : S1x32x512.Idx → Elt F .f32 := shapeCast S1x32x512 X (by decide)

variable (X0 : Dev nD → S128x512.Idx → Elt F .f32) (X1 : Dev nD → S32x512.Idx → Elt F .f32) (X2 : Dev nD → S1x512.Idx → Elt F .f32)

/-- Block `t` of device `c`'s partial. -/
abbrev rowsVal (t : Fin 4) (c : Dev nD) : S32x512.Idx → Elt F .f32 := fun j => X0 c ((rowsR t).emb j)

/-- The piece device `c` finishes. -/
def pieceVal (c : Dev nD) : S32x512.Idx → Elt F .f32 :=
  k0_pay1 (rowsVal X0 (ownRows c) c) (expand (rowsVal X0 (rowsOf 0 (frm 0 c)) (frm 0 c))) (expand (rowsVal X0 (rowsOf 1 (frm 1 c)) (frm 1 c)))
    (expand (rowsVal X0 (rowsOf 2 (frm 2 c)) (frm 2 c))) (X1 c) (X2 c)

/-- What transfer `x` of `c` carries. -/
def val (x : Fin 18) (c : Dev nD) : S32x512.Idx → Elt F .f32 :=
  if h : x.val < 3 then rowsVal X0 (rowsOf ⟨x.val, h⟩ c) c else pieceVal X0 X1 X2 (piece x c)

/-- The result: piece `d` at what device `d` finishes. -/
def outVal : S512x512.Idx → Elt F .f32 := fun i =>
  pieceVal X0 X1 X2 (⟨(i 0).val / 32, Nat.div_lt_of_lt_mul (i 0).isLt⟩ : Dev nD)
    (fun a => match a with | 0 => ⟨(i 0).val % 32, Nat.mod_lt _ (by decide)⟩ | 1 => i 1)

theorem outVal_piece (d : Dev nD) : (fun j => outVal X0 X1 X2 ((outR d).emb j)) = pieceVal X0 X1 X2 d := by
  funext j
  have h0 : (((outR d).emb j) 0).val = 32 * d.val + (j 0).val := by
    show (![32 * d.val, 0] : Fin 2 → ℕ) 0 + 1 * (j 0).val = _
    rw [Nat.one_mul]; rfl
  have h1 : (((outR d).emb j) 1).val = (j 1).val := by
    show (![32 * d.val, 0] : Fin 2 → ℕ) 1 + 1 * (j 1).val = _
    rw [Nat.one_mul]; exact Nat.zero_add _
  have hj : (j 0).val < 32 := (j 0).isLt
  have hd : (((outR d).emb j) 0).val / 32 = d.val := by rw [h0]; omega
  have hm : (((outR d).emb j) 0).val % 32 = (j 0).val := by rw [h0]; omega
  unfold outVal
  have e1 : (⟨(((outR d).emb j) 0).val / 32, Nat.div_lt_of_lt_mul (((outR d).emb j) 0).isLt⟩ : Dev nD) = d := Fin.ext hd
  rw [e1]
  congr 1
  funext a
  match a with
  | 0 => exact Fin.ext hm
  | 1 => exact Fin.ext h1

end Cert.Proof
-- ==== Proof.Protocol.lean ====
/-
  THE PROTOCOL between the devices, as a schedule of the rounds library. Every cell has one round.
    * A device's barrier cell expects one unit from each of its six peers; peer `i` hands with its unit the landing
      places, on itself, of all the transfers this device makes to it, and that their arrival cells are open.
    * A transfer's arrival cell expects the transfer's credit, which hands the receiver the landing place at the contents
      the transfer carries; its departure cell expects the same credit, which hands the sender back what was read.
  What a device owes at launch is a unit to each peer's barrier and the credit of each of its transfers. Levels: barriers
  below the arrivals of the partial rows, these below those of the pieces inside the group, these below the rest.
-/
module

public import proofs.«01_k».proof.Proof.Views
public import Idealize.ShloMosaic.Lib.Pipeline.Kit
public import Idealize.ShloMosaic.Lib.Rounds
public import Idealize.ShloMosaic.Lib.Memref
public import Idealize.ShloMosaic.Lib.MemrefSat

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's copy of the rounds algebra and the protocol's. -/
abbrev UP : Type := URounds (GSem nD τ sig) Unit
abbrev UT : Type := URounds (GSem nD τ sig) (Fin 6)
abbrev UU : Type := UP × UT

local notation "𝕄" => MT nD τ sig Unit (Elt F) ℕ UU ℕ

abbrev EP : Emb UP (MT nD τ sig Unit (Elt F) ℕ UU ℕ) := embL
abbrev ER : Emb UT (MT nD τ sig Unit (Elt F) ℕ UU ℕ) := embR

abbrev 𝒱₀ : Variants := Variants.none

/-! ### Cells -/

abbrev barCell (c : Dev nD) : GSem nD τ sig := ((c : Thread nD τ), .reg barS)
abbrev sndCell (x : Fin 18) (c : Dev nD) : GSem nD τ sig := ((c : Thread nD τ), .dma (sndS x))
abbrev rcvCell (x : Fin 18) (c : Dev nD) : GSem nD τ sig := ((c : Thread nD τ), .dma (rcvS x))

/-! ### Shares: a piece is read by several transfers at once -/

/-- The share of the source transfer `x` is lent: a block of partial rows whole; the finished piece in six parts; a piece
    passed on in three. -/
def shr (x : Fin 18) : PosShare TreeShare :=
  (![fullShare, fullShare, fullShare,
    fullShare.left.left, fullShare.left.right.left, fullShare.left.right.right,
    fullShare.right.left, fullShare.right.right.left, fullShare.right.right.right,
    fullShare.left, fullShare.right.left, fullShare.right.right, fullShare.left, fullShare.right.left, fullShare.right.right,
    fullShare.left, fullShare.right.left, fullShare.right.right] : Fin 18 → PosShare TreeShare) x

variable (X0 : Dev nD → S128x512.Idx → Elt F .f32) (X1 : Dev nD → S32x512.Idx → Elt F .f32) (X2 : Dev nD → S1x512.Idx → Elt F .f32)

/-! ### Payloads -/

/-- The landing place on `d` of the transfer `x` that comes to it, at contents not chosen. -/
def land (x : Fin 18) (d : Dev nD) : sProp 𝕄 := iprop(∃ X, owns (d : Thread nD τ) (dstM x (frm x d)) fullShare X)

/-- The same once the transfer has landed. -/
def arrived (x : Fin 18) (d : Dev nD) : sProp 𝕄 := owns (d : Thread nD τ) (dstM x (frm x d)) fullShare (val X0 X1 X2 x (frm x d))

/-- What transfer `x` of `c` reads, at the share it is lent. -/
def lent (x : Fin 18) (c : Dev nD) : sProp 𝕄 := owns (c : Thread nD τ) (srcM x c) (shr x) (val X0 X1 X2 x c)

/-- What peer `i` of `c` hands it at the barrier. -/
def barPay (c : Dev nD) (i : Fin 6) : sProp 𝕄 :=
  bigSep (Finset.univ.filter fun x => px x = i) fun x => iprop(land (F := F) x (tgt x c) ∗ reached ER (rcvCell x (tgt x c)) 0)

instance land_storable (x : Fin 18) (d : Dev nD) : BI.Storable (upEmb : UEmb _ 𝕄) (land (F := F) x d) := by unfold land; infer_instance
instance arrived_storable (x : Fin 18) (d : Dev nD) : BI.Storable (upEmb : UEmb _ 𝕄) (arrived X0 X1 X2 x d) := by unfold arrived; infer_instance
instance lent_storable (x : Fin 18) (d : Dev nD) : BI.Storable (upEmb : UEmb _ 𝕄) (lent X0 X1 X2 x d) := by unfold lent; infer_instance
instance barPay_storable (c : Dev nD) (i : Fin 6) : BI.Storable (upEmb : UEmb _ 𝕄) (barPay (F := F) c i) := by unfold barPay; infer_instance

/-! ### The schedule -/

def dutyFin (sm : SemLoc sig) : Finset (Fin 6) :=
  match sm with
  | .reg _ => Finset.univ
  | .dma s => if (useOf s).isSome then {0} else ∅

def payOf (c : Dev nD) (sm : SemLoc sig) (i : Fin 6) : sProp 𝕄 :=
  match sm with
  | .reg _ => barPay c i
  | .dma s => match useOf s with
    | none => iprop(emp)
    | some (false, x) => lent X0 X1 X2 x c
    | some (true, x) => arrived X0 X1 X2 x c

def Rd : Rounds.Schedule (GSem nD τ sig) (Fin 6) 𝕄 where
  duties g r := if r = 0 ∧ g.1.2 = .tc then dutyFin g.2 else ∅
  unitless _ := False
  amount g _ _ := match g.2 with | .reg _ => 1 | .dma _ => N
  payload g _ i := payOf X0 X1 X2 g.1.1 g.2 i
  amount_pos g _ _ _ := by
    split
    · exact Nat.one_pos
    · exact N_pos

instance payOf_storable (c : Dev nD) (sm : SemLoc sig) (i : Fin 6) : BI.Storable (upEmb : UEmb _ 𝕄) (payOf X0 X1 X2 c sm i) := by
  unfold payOf
  (repeat' split) <;> infer_instance

instance Rd_storable (g : GSem nD τ sig) (r : ℕ) (i : Fin 6) : BI.Storable (upEmb : UEmb _ 𝕄) ((Rd X0 X1 X2).payload g r i) := by
  dsimp only [Rd]; infer_instance

section Sched

variable (c : Dev nD) (x : Fin 18)

theorem duties_bar : (Rd X0 X1 X2).duties (barCell c) 0 = Finset.univ := by
  dsimp only [Rd]; rw [if_pos ⟨rfl, rfl⟩]; rfl
theorem duties_snd : (Rd X0 X1 X2).duties (sndCell x c) 0 = {0} := by
  dsimp only [Rd, dutyFin]; rw [if_pos ⟨rfl, rfl⟩, useOf_snd]; rfl
theorem duties_rcv : (Rd X0 X1 X2).duties (rcvCell x c) 0 = {0} := by
  dsimp only [Rd, dutyFin]; rw [if_pos ⟨rfl, rfl⟩, useOf_rcv]; rfl
theorem duties_later (g : GSem nD τ sig) : ∀ r, 1 ≤ r → (Rd X0 X1 X2).duties g r = ∅ := fun r hr => by
  dsimp only [Rd]; exact if_neg fun h => by omega

theorem amount_bar (i : Fin 6) : (Rd X0 X1 X2).amount (barCell c) 0 i = 1 := rfl
theorem amount_snd (i : Fin 6) : (Rd X0 X1 X2).amount (sndCell x c) 0 i = N := rfl
theorem amount_rcv (i : Fin 6) : (Rd X0 X1 X2).amount (rcvCell x c) 0 i = N := rfl

theorem expect_bar : (Rd X0 X1 X2).expect (barCell c) 0 = 6 := by
  unfold Schedule.expect Schedule.amountOf; rw [duties_bar, Finset.sum_congr rfl fun i _ => amount_bar X0 X1 X2 c i]; decide
theorem expect_snd : (Rd X0 X1 X2).expect (sndCell x c) 0 = N := by
  unfold Schedule.expect Schedule.amountOf; rw [duties_snd, Finset.sum_singleton, amount_snd]
theorem expect_rcv : (Rd X0 X1 X2).expect (rcvCell x c) 0 = N := by
  unfold Schedule.expect Schedule.amountOf; rw [duties_rcv, Finset.sum_singleton, amount_rcv]

theorem payload_bar (i : Fin 6) : (Rd X0 X1 X2).payload (barCell c) 0 i = barPay c i := rfl
theorem payload_snd (i : Fin 6) : (Rd X0 X1 X2).payload (sndCell x c) 0 i = lent X0 X1 X2 x c := by
  dsimp only [Rd, payOf]; rw [useOf_snd]
theorem payload_rcv (i : Fin 6) : (Rd X0 X1 X2).payload (rcvCell x c) 0 i = arrived X0 X1 X2 x c := by
  dsimp only [Rd, payOf]; rw [useOf_rcv]

/-- All the landing places the peers hand over. -/
theorem rest_bar : bigSep ((Rd X0 X1 X2).duties (barCell c) 0 \ ∅) (fun i => (Rd X0 X1 X2).payload (barCell c) 0 i)
    = bigSep Finset.univ fun x => iprop(land (F := F) x (tgt x c) ∗ reached ER (rcvCell x (tgt x c)) 0) := by
  rw [Finset.sdiff_empty, duties_bar]
  have hu : (Finset.univ : Finset (Fin 6)) = Finset.univ.image px := by decide
  rw [bigSep_fiberwise Finset.univ px, ← hu]
  rfl
theorem rest_snd : bigSep ((Rd X0 X1 X2).duties (sndCell x c) 0 \ ∅) (fun i => (Rd X0 X1 X2).payload (sndCell x c) 0 i) = lent X0 X1 X2 x c := by
  rw [Finset.sdiff_empty, duties_snd, bigSep_singleton, payload_snd]
theorem rest_rcv : bigSep ((Rd X0 X1 X2).duties (rcvCell x c) 0 \ ∅) (fun i => (Rd X0 X1 X2).payload (rcvCell x c) 0 i) = arrived X0 X1 X2 x c := by
  rw [Finset.sdiff_empty, duties_rcv, bigSep_singleton, payload_rcv]

end Sched

/-! ### What a device owes -/

/-- The indices from `n` on, below `n`. -/
abbrev fromN {k : ℕ} (n : ℕ) : Finset (Fin k) := Finset.univ.filter fun x => n ≤ x.val
abbrev below {k : ℕ} (n : ℕ) : Finset (Fin k) := Finset.univ.filter fun x => x.val < n

theorem fromN_cons {k : ℕ} (x : Fin k) : (fromN x.val : Finset (Fin k)) = insert x (fromN (x.val + 1)) := by
  ext y; simp only [Finset.mem_filter, Finset.mem_univ, true_and, Finset.mem_insert, Fin.ext_iff]; omega
theorem not_mem_fromN {k : ℕ} (x : Fin k) : x ∉ (fromN (x.val + 1) : Finset (Fin k)) := by
  simp only [Finset.mem_filter, Finset.mem_univ, true_and]; omega
theorem below_cons {k : ℕ} (x : Fin k) : (below (x.val + 1) : Finset (Fin k)) = insert x (below x.val) := by
  ext y; simp only [Finset.mem_filter, Finset.mem_univ, true_and, Finset.mem_insert, Fin.ext_iff]; omega
theorem not_mem_below {k : ℕ} (x : Fin k) : x ∉ (below x.val : Finset (Fin k)) := by
  simp only [Finset.mem_filter, Finset.mem_univ, true_and]; omega

/-- The credits of the transfers from `n` on. -/
def owedT (c : Dev nD) (n : ℕ) : CellTallies nD τ sig Unit := ∑ x ∈ (fromN n : Finset (Fin 18)), tallyAt (rcvCell x (tgt x c)) () N
/-- The barrier units of the peers from `n` on. -/
def owedB (c : Dev nD) (n : ℕ) : CellTallies nD τ sig Unit := ∑ i ∈ (fromN n : Finset (Fin 6)), tallyAt (barCell (peer i c)) () 1
def O₀ (c : Dev nD) : CellTallies nD τ sig Unit := owedT c 0 + owedB c 0

theorem owedT_step (c : Dev nD) (x : Fin 18) : owedT c x.val = owedT c (x.val + 1) + tallyAt (rcvCell x (tgt x c)) () N := by
  unfold owedT; rw [fromN_cons, Finset.sum_insert (not_mem_fromN x), add_comm]
theorem owedB_step (c : Dev nD) (i : Fin 6) : owedB c i.val = owedB c (i.val + 1) + tallyAt (barCell (peer i c)) () 1 := by
  unfold owedB; rw [fromN_cons, Finset.sum_insert (not_mem_fromN i), add_comm]
theorem owedT_end (c : Dev nD) : owedT c 18 = 0 := by
  unfold owedT; rw [show (fromN 18 : Finset (Fin 18)) = ∅ from by decide, Finset.sum_empty]
theorem owedB_end (c : Dev nD) : owedB c 6 = 0 := by
  unfold owedB; rw [show (fromN 6 : Finset (Fin 6)) = ∅ from by decide, Finset.sum_empty]

/-! ### Levels -/

def L (g : GSem nD τ sig) : Finset Unit := if g.1.2 = .tc then {()} else ∅
def lvS (s : DmaSem sig) : ℕ :=
  match useOf s with
  | some (true, x) => if x.val < 3 then 2 else if x.val < 6 then 3 else 4
  | _ => 0
def lvL (sm : SemLoc sig) : ℕ := match sm with | .reg _ => 1 | .dma s => lvS s
def lv (g : GSem nD τ sig) (_ : Unit) : ℕ := lvL g.2

theorem L_of_ne (g : GSem nD τ sig) (h : g.1.2 ≠ .tc) : L g = ∅ := if_neg h
theorem L_tc (c : Dev nD) (sm : SemLoc sig) : L ((c : Thread nD τ), sm) = {()} := if_pos rfl

theorem sum_tally_pos {ι : Type} [DecidableEq ι] (S : Finset ι) (cell : ι → GSem nD τ sig) (k : ι → ℕ) (g : GSem nD τ sig) (u : Unit)
    (h : 0 < (∑ x ∈ S, (tallyAt (cell x) () (k x) : CellTallies nD τ sig Unit)) g u) : ∃ x ∈ S, g = cell x := by
  classical
  induction S using Finset.induction_on with
  | empty => rw [Finset.sum_empty] at h; exact absurd h (Nat.lt_irrefl 0)
  | insert a S ha ih =>
    rw [Finset.sum_insert ha, Pi.add_apply, Finsupp.add_apply, tallyAt_apply] at h
    by_cases hg : g = cell a ∧ u = ()
    · exact ⟨a, Finset.mem_insert_self _ _, hg.1⟩
    · rw [if_neg hg, Nat.zero_add] at h
      obtain ⟨x, hx, e⟩ := ih h
      exact ⟨x, Finset.mem_insert_of_mem hx, e⟩

omit [FloatOps F] in
/-- A wait below the arrivals of every transfer still to be made is safe. -/
theorem mayWait (c : Dev nD) (sm : SemLoc sig) (n : ℕ) (h : ∀ y : Fin 18, n ≤ y.val → lvL sm < lvS (rcvS y)) :
    (levAts L lv : sProp 𝕄) ⊢ MayWait (c : Thread nD τ) sm () (owedT c n) :=
  MayOwe.of_cut (L := L) (lev := lv) (lvL sm) (fun p hp => by rw [Finset.mem_singleton.mp hp, L_tc]; exact Finset.mem_singleton_self _)
    (fun g u hg => by
      obtain ⟨x, -, rfl⟩ := sum_tally_pos _ (fun x => rcvCell x (tgt x c)) (fun _ => N) g u hg
      rw [L_tc]; exact Finset.mem_singleton_self _)
    (fun p hp => by rw [Finset.mem_singleton.mp hp]; exact le_refl _)
    (fun g u hg => by
      obtain ⟨x, hx, rfl⟩ := sum_tally_pos _ (fun x => rcvCell x (tgt x c)) (fun _ => N) g u hg
      exact h x (Finset.mem_filter.mp hx).2)

end Cert.Proof
-- ==== Proof.Steps.lean ====
/-
  A DEVICE'S STATE in the course of its transfers, and what each of the program's operations does to it: a transfer
  started, an arrival waited for, a departure waited for.
-/
module

public import proofs.«01_k».proof.Proof.Protocol

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X0 : Dev nD → S128x512.Idx → Elt F .f32) (X1 : Dev nD → S32x512.Idx → Elt F .f32) (X2 : Dev nD → S1x512.Idx → Elt F .f32)

omit [FloatOps F] in
theorem big_mono {I : Type} {s : Finset I} {Φ Ψ : I → sProp 𝕄} (h : ∀ i ∈ s, Φ i ⊢ Ψ i) : bigSep s Φ ⊢ bigSep s Ψ := bigSep_mono h
omit [FloatOps F] in
theorem big_insert {I : Type} [DecidableEq I] {i : I} {s : Finset I} (h : i ∉ s) {Φ : I → sProp 𝕄} :
    bigSep (insert i s) Φ = iprop(Φ i ∗ bigSep s Φ) := bigSep_insert h
omit [FloatOps F] in
theorem big_elim {I : Type} [DecidableEq I] {s : Finset I} {i : I} {Φ : I → sProp 𝕄} (h : i ∈ s) : bigSep s Φ ⊢ Φ i := bigSep_elim h

/-! ### Sets of transfers -/

/-- The transfers at the one bits of `m`. -/
abbrev bits (m : ℕ) : Finset (Fin 18) := Finset.univ.filter fun x => m.testBit x.val = true
/-- The transfers started but not yet waited for. -/
abbrev between (w n : ℕ) : Finset (Fin 18) := Finset.univ.filter fun x => w ≤ x.val ∧ x.val < n

theorem between_last {w : ℕ} (x : Fin 18) (h : w ≤ x.val) : between w (x.val + 1) = insert x (between w x.val) := by
  ext y; simp only [Finset.mem_filter, Finset.mem_univ, true_and, Finset.mem_insert, Fin.ext_iff]; omega
theorem not_mem_between_last {w : ℕ} (x : Fin 18) : x ∉ between w x.val := by
  simp only [Finset.mem_filter, Finset.mem_univ, true_and]; omega
theorem between_first {n : ℕ} (x : Fin 18) (h : x.val < n) : between x.val n = insert x (between (x.val + 1) n) := by
  ext y; simp only [Finset.mem_filter, Finset.mem_univ, true_and, Finset.mem_insert, Fin.ext_iff]; omega
theorem not_mem_between_first {n : ℕ} (x : Fin 18) : x ∉ between (x.val + 1) n := by
  simp only [Finset.mem_filter, Finset.mem_univ, true_and]; omega

/-- `m` is `m'` and `x` besides. -/
abbrev Adds (x : Fin 18) (m' m : ℕ) : Prop := bits m = insert x (bits m') ∧ x ∉ bits m'

omit [FloatOps F] in
theorem bits_take {x : Fin 18} {m' m : ℕ} (h : Adds x m' m) (Φ : Fin 18 → sProp 𝕄) : bigSep (bits m) Φ ⊢ iprop(Φ x ∗ bigSep (bits m') Φ) := by
  rw [h.1, big_insert h.2]
omit [FloatOps F] in
theorem bits_put {x : Fin 18} {m' m : ℕ} (h : Adds x m' m) (Φ : Fin 18 → sProp 𝕄) : iprop(Φ x ∗ bigSep (bits m') Φ) ⊢ bigSep (bits m) Φ := by
  rw [h.1, big_insert h.2]

/-! ### The state -/

/-- Every cell's invariant. -/
def cells (K : GSem nD τ sig → ℕ) : sProp 𝕄 :=
  iprop((bigSep (Finset.univ : Finset (Dev nD)) fun d => cellInv ER (Rd X0 X1 X2) (K (barCell d)) (barCell d))
    ∗ (bigSep (Finset.univ : Finset (Fin 18 × Dev nD)) fun p => cellInv ER (Rd X0 X1 X2) (K (sndCell p.1 p.2)) (sndCell p.1 p.2))
    ∗ (bigSep (Finset.univ : Finset (Fin 18 × Dev nD)) fun p => cellInv ER (Rd X0 X1 X2) (K (rcvCell p.1 p.2)) (rcvCell p.1 p.2)))

instance cells_persistent (K : GSem nD τ sig → ℕ) : BI.Persistent (cells X0 X1 X2 K) := by unfold cells; infer_instance

theorem cells_bar (K : GSem nD τ sig → ℕ) (d : Dev nD) : cells X0 X1 X2 K ⊢ (cellInv ER (Rd X0 X1 X2) (K (barCell d)) (barCell d) : sProp 𝕄) := by
  unfold cells
  iintro ⟨H, -, -⟩
  iapply (big_elim (s := (Finset.univ : Finset (Dev nD))) (Φ := fun d => cellInv ER (Rd X0 X1 X2) (K (barCell d)) (barCell d)) (Finset.mem_univ d))
  iexact H
theorem cells_snd (K : GSem nD τ sig → ℕ) (x : Fin 18) (d : Dev nD) :
    cells X0 X1 X2 K ⊢ (cellInv ER (Rd X0 X1 X2) (K (sndCell x d)) (sndCell x d) : sProp 𝕄) := by
  unfold cells
  iintro ⟨-, H, -⟩
  iapply (big_elim (s := (Finset.univ : Finset (Fin 18 × Dev nD))) (Φ := fun p => cellInv ER (Rd X0 X1 X2) (K (sndCell p.1 p.2)) (sndCell p.1 p.2)) (Finset.mem_univ (x, d)))
  iexact H
theorem cells_rcv (K : GSem nD τ sig → ℕ) (x : Fin 18) (d : Dev nD) :
    cells X0 X1 X2 K ⊢ (cellInv ER (Rd X0 X1 X2) (K (rcvCell x d)) (rcvCell x d) : sProp 𝕄) := by
  unfold cells
  iintro ⟨-, -, H⟩
  iapply (big_elim (s := (Finset.univ : Finset (Fin 18 × Dev nD))) (Φ := fun p => cellInv ER (Rd X0 X1 X2) (K (rcvCell p.1 p.2)) (rcvCell p.1 p.2)) (Finset.mem_univ (x, d)))
  iexact H

/-- What a device holds of a transfer it has not started, -/
def todo (c : Dev nD) (x : Fin 18) : sProp 𝕄 :=
  iprop(dutyTok ER (sndCell x c) 0 (0 : Fin 6) ∗ reached ER (sndCell x c) 0 ∗ dutyTok ER (rcvCell x (tgt x c)) 0 (0 : Fin 6)
    ∗ (land (F := F) x (tgt x c) ∗ reached ER (rcvCell x (tgt x c)) 0) ∗ atPos ER (sndCell x c) 0 (∅ : Finset (Fin 6)) 0)
/-- has started, -/
def gone (c : Dev nD) (x : Fin 18) : sProp 𝕄 :=
  iprop(cred (tallyAt (sndCell x c) () N) ∗ atPos ER (sndCell x c) 0 (∅ : Finset (Fin 6)) 0)
/-- and has seen depart; -/
def done (c : Dev nD) (x : Fin 18) : sProp 𝕄 := atPos ER (sndCell x c) 1 (∅ : Finset (Fin 6)) 0
/-- of one that is to come to it, -/
def pend (c : Dev nD) (x : Fin 18) : sProp 𝕄 :=
  iprop(cred (tallyAt (rcvCell x c) () N) ∗ atPos ER (rcvCell x c) 0 (∅ : Finset (Fin 6)) 0)
/-- and that has come. -/
def come (c : Dev nD) (x : Fin 18) : sProp 𝕄 := atPos ER (rcvCell x c) 1 (∅ : Finset (Fin 6)) 0

/-- The state when the transfers below `n` are started and those below `w` have departed, those of `R` are still to come,
    and in hand are the sources of those of `S` and the arrivals of those of `A`. -/
def St (K : GSem nD τ sig → ℕ) (c : Dev nD) (n w R S A : ℕ) : sProp 𝕄 :=
  iprop(cells X0 X1 X2 K ∗ levAts L lv ∗ (∃ W, owes (c : Thread nD τ) (owedT c n) W)
    ∗ bigSep (fromN n) (todo c) ∗ bigSep (between w n) (gone c) ∗ bigSep (below w) (done c)
    ∗ bigSep (bits R) (pend c) ∗ bigSep (bits (262143 - R)) (come c)
    ∗ bigSep (bits S) (fun x => lent X0 X1 X2 x c) ∗ bigSep (bits A) (fun x => arrived X0 X1 X2 x c))

theorem land_tgt (x : Fin 18) (c : Dev nD) :
    (land x (tgt x c) : sProp 𝕄) = iprop(∃ X, owns (tgt x c : Thread nD τ) (dstM x c) fullShare X) := by
  unfold land; rw [frm_tgt]
theorem arrived_tgt (x : Fin 18) (c : Dev nD) :
    (arrived X0 X1 X2 x (tgt x c) : sProp 𝕄) = owns (tgt x c : Thread nD τ) (dstM x c) fullShare (val X0 X1 X2 x c) := by
  unfold arrived; rw [frm_tgt]

variable {α : Type} {Q : α → sProp (MT nD τ sig Unit (Elt F) ℕ UU ℕ)} {K : GSem nD τ sig → ℕ} {c : Dev nD}

/-- A transfer is started: its source goes to its departure cell, the landing place to its arrival cell. -/
theorem send_step (x : Fin 18) (n n' w R S S' A : ℕ) (hn : n = x.val) (hn' : n' = x.val + 1) (hS : Adds x S' S) (hw : w ≤ x.val) {p : Dev nD} (hp : p = tgt x c)
    {src dst : Memref sig .tc .vmem S32x512 .f32} (hs : src = srcM x c) (hd : dst = dstM x c)
    {sS rS : DmaSem sig} (hsS : sS = sndS x) (hrS : rS = rcvS x) {h0 : dst.view.ref.isScScratch = false}
    {hsrc : src.view.WordExact} {hdst : dst.view.WordExact} {hsem : DmaTarget.Typed .vmem (SemLoc.dma rS) (.remote (Dev.tc p) dst (.dma sS) h0)}
    {k : PUnit → Prog (TpuEff nD τ sig (Elt F) Λ₀ .tc) α} :
    St X0 X1 X2 K c n w R S A
      ⊢ iprop((St X0 X1 X2 K c n' w R S' A -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p) dst (.dma sS) h0) (.dma rS) hsrc hdst hsem) k) Q) := by
  subst hn hn' hp hs hd hsS hrS
  unfold St
  rw [fromN_cons x, big_insert (not_mem_fromN x), between_last x hw, big_insert (not_mem_between_last x), hS.1, big_insert hS.2]
  iintro ⟨#HC, #HL, ⟨%W, HO⟩, ⟨Ht, HT⟩, HG, HD, HP, HM, ⟨Hl, HS⟩, HA⟩ Hk
  unfold todo
  icases Ht with ⟨Hts, #Hrs, Htr, ⟨Hland, #Hrr⟩, Hat⟩
  ihave Hland := (Entails.of_eq (land_tgt (F := F) x c)) $$ Hland
  icases Hland with ⟨%X, Hd⟩
  unfold lent owns
  icases Hd with ⟨%fd, -, Hd⟩
  icases Hl with ⟨%fs, %hfs, Hs⟩
  iapply (Rounds.wp_send_pointsTo 𝒱₀ ER (Rd X0 X1 X2) (c : Thread nD τ) none (c' := (tgt x c : Thread nD τ)) (src := srcM x c) (dst := dstM x c)
      (sS := .dma (sndS x)) (sem := .dma (rcvS x)) (q := shr x) (fs := fs) (κ₁ := K (sndCell x c)) (κ₂ := K (rcvCell x (tgt x c)))
      (r₁ := 0) (r₂ := 0) (d₁ := (0 : Fin 6)) (d₂ := (0 : Fin 6)) (fd := fd)
      (by rw [duties_snd]; exact Finset.mem_singleton_self _) (by rw [duties_rcv]; exact Finset.mem_singleton_self _)
      () () N (credit_dst x c) (amount_snd X0 X1 X2 c x 0) (amount_rcv X0 X1 X2 (tgt x c) x 0) (owedT c (x.val + 1)) (owedT_step c x) (W := W)
      (by rw [payload_snd]; unfold lent; rw [← hfs]; exact owns_intro _ _ _ _)
      (by rw [payload_rcv, arrived_tgt, ← hfs]
          refine (owns_intro _ _ _ _).trans (Entails.of_eq ?_)
          rw [View.read_write_univ])) $$ [Hs Hd HO Hts Htr]
  · isplitr; · iapply (cells_snd X0 X1 X2 K x c); iexact HC
    isplitr; · iapply (cells_rcv X0 X1 X2 K x (tgt x c)); iexact HC
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hc, HO⟩
  iapply Hk
  isplitr; · iexact HC
  isplitr; · iexact HL
  isplitl [HO]; · iexists W; iexact HO
  isplitl [HT]; · iexact HT
  isplitl [Hc Hat HG]
  · isplitl [Hc Hat]
    · unfold gone
      isplitl [Hc]; · iexact Hc
      iexact Hat
    · iexact HG
  isplitl [HD]; · iexact HD
  isplitl [HP]; · iexact HP
  isplitl [HM]; · iexact HM
  isplitl [HS]; · iexact HS
  iexact HA

/-- An arrival is waited for. -/
theorem recv_step (x : Fin 18) (n w R R' S A A' : ℕ) (hR : Adds x R' R) (hR' : Adds x (262143 - R) (262143 - R')) (hA : Adds x A A')
    (hlev : ∀ y : Fin 18, n ≤ y.val → lvS (rcvS x) < lvS (rcvS y))
    {src dst : Memref sig .tc .vmem S32x512 .f32} {rS : DmaSem sig} (hrS : rS = rcvS x)
    {hsrc : src.view.WordExact} {hdst : dst.view.WordExact} (hN : dst.view.dmaCredit = N)
    {k : PUnit → Prog (TpuEff nD τ sig (Elt F) Λ₀ .tc) α} :
    St X0 X1 X2 K c n w R S A
      ⊢ iprop((St X0 X1 X2 K c n w R' S A' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS src dst hsrc hdst) k) Q) := by
  subst hrS
  unfold St
  rw [hR.1, big_insert hR.2, hR'.1, big_insert hR'.2, hA.1, big_insert hA.2]
  iintro ⟨#HC, #HL, ⟨%W, HO⟩, HT, HG, HD, ⟨Hp, HP⟩, HM, HS, HA⟩ Hk
  unfold pend
  icases Hp with ⟨Hc, Hat⟩
  iapply (Rounds.wp_wait_rest_token 𝒱₀ ER (Rd X0 X1 X2) (c : Thread nD τ) none (κ := K (rcvCell x c))
      (wpE_waitDma2_eq 𝒱₀ (c : Thread nD τ) none Set.univ) (Set.mem_univ _) () (O := owedT c n) (W := W) (R := 0) (m := 0) (T := ∅)
      ((Nat.zero_add _).trans (hN.trans (expect_rcv X0 X1 X2 c x).symm))) $$ [Hc HO Hat]
  · isplitr; · iapply (cells_rcv X0 X1 X2 K x c); iexact HC
    isplitl [Hc]; · rw [hN]; iexact Hc
    isplitl [HO]; · iexact HO
    isplitr; · iapply (mayWait c (.dma (rcvS x)) n hlev); iexact HL
    iexact Hat
  iintro ⟨HO, Hat, -, Hpay⟩
  ihave Hp := (Entails.of_eq (rest_rcv X0 X1 X2 c x)) $$ Hpay
  iapply Hk
  isplitr; · iexact HC
  isplitr; · iexact HL
  isplitl [HO]; · iexists _; iexact HO
  isplitl [HT]; · iexact HT
  isplitl [HG]; · iexact HG
  isplitl [HD]; · iexact HD
  isplitl [HP]; · iexact HP
  isplitl [HM Hat]
  · isplitl [Hat]
    · unfold come; iexact Hat
    · iexact HM
  isplitl [HS]; · iexact HS
  isplitl [Hp]; · iexact Hp
  iexact HA

omit [FloatOps F] in
/-- A memref's ownership in three. -/
theorem owns_thirds (d : Dev nD) (m : Memref sig .tc .vmem S32x512 .f32) (q : PosShare TreeShare) (X : S32x512.Idx → Elt F .f32) :
    (owns (d : Thread nD τ) m q X : sProp 𝕄) ⊣⊢ iprop(owns (d : Thread nD τ) m q.left X ∗ owns (d : Thread nD τ) m q.right.left X ∗ owns (d : Thread nD τ) m q.right.right X) := by
  constructor
  · iintro H
    ihave H := (owns_halves (d : Thread nD τ) m q X).1 $$ H
    icases H with ⟨Ha, H⟩
    ihave H := (owns_halves (d : Thread nD τ) m q.right X).1 $$ H
    icases H with ⟨Hb, Hc⟩
    isplitl [Ha]; · iexact Ha
    isplitl [Hb]; · iexact Hb
    iexact Hc
  · iintro ⟨Ha, Hb, Hc⟩
    iapply (owns_halves (d : Thread nD τ) m q X).2
    isplitl [Ha]; · iexact Ha
    iapply (owns_halves (d : Thread nD τ) m q.right X).2
    isplitl [Hb]; · iexact Hb
    iexact Hc

/-- The transfers of turn `k`. -/
abbrev fwd (k : Fin 3) (r : Fin 3) : Fin 18 := ⟨9 + 3 * k.val + r.val, by omega⟩

/-- A piece that has come, as what the three transfers of a turn read. -/
theorem arrived_fwd (c : Dev nD) (k : Fin 3) (x : Fin 18) (hx : x3 (arrival c k) = x) :
    (arrived X0 X1 X2 x c : sProp 𝕄) ⊣⊢ iprop(lent X0 X1 X2 (fwd k 0) c ∗ lent X0 X1 X2 (fwd k 1) c ∗ lent X0 X1 X2 (fwd k 2) c) := by
  have e : (arrived X0 X1 X2 x c : sProp 𝕄) = owns (c : Thread nD τ) (outM (turn c k)) fullShare (pieceVal X0 X1 X2 (turn c k)) := by
    unfold arrived
    rw [← hx, turn_arrival]
    have hm : dstM (x3 (arrival c k)) (turn c k) = outM (turn c k) := by
      unfold dstM piece; rw [dif_neg (show ¬ (x3 (arrival c k)).val < 3 by show ¬ 3 + (arrival c k).val < 3; omega),
        if_pos (show (x3 (arrival c k)).val < 9 by show 3 + (arrival c k).val < 9; omega)]
    have hv : val X0 X1 X2 (x3 (arrival c k)) (turn c k) = pieceVal X0 X1 X2 (turn c k) := by
      unfold val piece; rw [dif_neg (show ¬ (x3 (arrival c k)).val < 3 by show ¬ 3 + (arrival c k).val < 3; omega),
        if_pos (show (x3 (arrival c k)).val < 9 by show 3 + (arrival c k).val < 9; omega)]
    rw [hm, hv]
  have hl : ∀ r : Fin 3, (lent X0 X1 X2 (fwd k r) c : sProp 𝕄)
      = owns (c : Thread nD τ) (outM (turn c k)) (shr (fwd k r)) (pieceVal X0 X1 X2 (turn c k)) := fun r => by
    have hp : piece (fwd k r) c = turn c k := by
      unfold piece; rw [if_neg (show ¬ (fwd k r).val < 9 by show ¬ 9 + 3 * k.val + r.val < 9; omega)]
      congr 1; apply Fin.ext; show (9 + 3 * k.val + r.val - 9) / 3 % 3 = k.val; omega
    unfold lent srcM val
    rw [dif_neg (show ¬ (fwd k r).val < 3 by show ¬ 9 + 3 * k.val + r.val < 3; omega),
      dif_neg (show ¬ (fwd k r).val < 3 by show ¬ 9 + 3 * k.val + r.val < 3; omega), hp]
  have hs : shr (fwd k 0) = fullShare.left ∧ shr (fwd k 1) = fullShare.right.left ∧ shr (fwd k 2) = fullShare.right.right := by
    match k with
    | 0 => exact ⟨rfl, rfl, rfl⟩
    | 1 => exact ⟨rfl, rfl, rfl⟩
    | 2 => exact ⟨rfl, rfl, rfl⟩
  rw [e, hl, hl, hl, hs.1, hs.2.1, hs.2.2]
  exact owns_thirds c _ _ _

/-- The arrival of a piece to pass on is waited for: what comes is what the turn's transfers read. -/
theorem fwd_step (k : Fin 3) (x : Fin 18) (hx : x3 (arrival c k) = x) (n w R R' S S1 S2 S3 A : ℕ) (hR : Adds x R' R)
    (hR' : Adds x (262143 - R) (262143 - R')) (h1 : Adds (fwd k 0) S S1) (h2 : Adds (fwd k 1) S1 S2) (h3 : Adds (fwd k 2) S2 S3)
    (A' : ℕ) (hA : Adds x A A')
    (hlev : ∀ y : Fin 18, n ≤ y.val → lvS (rcvS x) < lvS (rcvS y))
    {src dst : Memref sig .tc .vmem S32x512 .f32} {rS : DmaSem sig} (hrS : rS = rcvS x)
    {hsrc : src.view.WordExact} {hdst : dst.view.WordExact} (hN : dst.view.dmaCredit = N)
    {k' : PUnit → Prog (TpuEff nD τ sig (Elt F) Λ₀ .tc) α} :
    St X0 X1 X2 K c n w R S A
      ⊢ iprop((St X0 X1 X2 K c n w R' S3 A -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 rS src dst hsrc hdst) k') Q) := by
  iintro H Hk
  iapply (recv_step X0 X1 X2 x n w R R' S A A' hR hR' hA hlev hrS hN) $$ H
  iintro H
  iapply Hk
  unfold St
  rw [hA.1, big_insert hA.2, h3.1, big_insert h3.2, h2.1, big_insert h2.2, h1.1, big_insert h1.2]
  icases H with ⟨H0, H1, H2, H3, H4, H5, H6, H7, H8, Ha, H9⟩
  ihave Ha := (arrived_fwd X0 X1 X2 c k x hx).1 $$ Ha
  icases Ha with ⟨Ha, Hb, Hc⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitr [H9]
  · isplitl [Hc]; · iexact Hc
    isplitl [Hb]; · iexact Hb
    isplitl [Ha]; · iexact Ha
    iexact H8
  iexact H9

/-- A departure is waited for, every transfer started: the source comes back. -/
theorem depart_step (x : Fin 18) (w w' R S S' A : ℕ) (hw : w = x.val) (hw' : w' = x.val + 1) (hS : Adds x S S')
    {src dst : Memref sig .tc .vmem S32x512 .f32} {sS : DmaSem sig} (hsS : sS = sndS x)
    {hsrc : src.view.WordExact} {hdst : dst.view.WordExact} (hN : dst.view.dmaCredit = N)
    {k : PUnit → Prog (TpuEff nD τ sig (Elt F) Λ₀ .tc) α} :
    St X0 X1 X2 K c 18 w R S A
      ⊢ iprop((St X0 X1 X2 K c 18 w' R S' A -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hw hw' hsS
  unfold St
  rw [between_first x x.isLt, big_insert (not_mem_between_first x), below_cons x, big_insert (not_mem_below x), hS.1, big_insert hS.2]
  iintro ⟨#HC, #HL, ⟨%W, HO⟩, HT, ⟨Hg, HG⟩, HD, HP, HM, HS, HA⟩ Hk
  unfold gone
  icases Hg with ⟨Hc, Hat⟩
  iapply (Rounds.wp_wait_rest_token 𝒱₀ ER (Rd X0 X1 X2) (c : Thread nD τ) none (κ := K (sndCell x c))
      (wpE_waitDma2_eq 𝒱₀ (c : Thread nD τ) none Set.univ) (Set.mem_univ _) () (O := owedT c 18) (W := W) (R := 0) (m := 0) (T := ∅)
      ((Nat.zero_add _).trans (hN.trans (expect_snd X0 X1 X2 c x).symm))) $$ [Hc HO Hat]
  · isplitr; · iapply (cells_snd X0 X1 X2 K x c); iexact HC
    isplitl [Hc]; · rw [hN]; iexact Hc
    isplitl [HO]; · iexact HO
    isplitr; · rw [owedT_end, MayWait_zero]; iempintro
    iexact Hat
  iintro ⟨HO, Hat, -, Hpay⟩
  ihave Hp := (Entails.of_eq (rest_snd X0 X1 X2 c x)) $$ Hpay
  iapply Hk
  isplitr; · iexact HC
  isplitr; · iexact HL
  isplitl [HO]; · iexists _; iexact HO
  isplitl [HT]; · iexact HT
  isplitl [HG]; · iexact HG
  isplitl [HD Hat]
  · isplitl [Hat]
    · unfold done; iexact Hat
    · iexact HD
  isplitl [HP]; · iexact HP
  isplitl [HM]; · iexact HM
  isplitl [HS Hp]
  · isplitl [Hp]; · iexact Hp
    iexact HS
  iexact HA

/-! ### The barrier -/

/-- The state at the barrier, the peers from `n` on not yet signalled: in hand are the landing places to hand to them. -/
def Bar (K : GSem nD τ sig → ℕ) (c : Dev nD) (n : ℕ) : sProp 𝕄 :=
  iprop(cells X0 X1 X2 K ∗ (∃ W, owes (c : Thread nD τ) (owedT c 0 + owedB c n) W)
    ∗ bigSep (fromN n) (fun i : Fin 6 => iprop(dutyTok ER (barCell (peer i c)) 0 (back i) ∗ reached ER (barCell (peer i c)) 0
        ∗ barPay (F := F) (peer i c) (back i))))

/-- A peer is signalled. -/
theorem signal_step (i : Fin 6) {p : Dev nD} (hp : p = peer i c) {k : PUnit → Prog (TpuEff nD τ sig (Elt F) Λ₀ .tc) α} :
    Bar X0 X1 X2 K c i.val
      ⊢ iprop((Bar X0 X1 X2 K c (i.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc p) barS 1) k) Q) := by
  subst hp
  unfold Bar
  rw [fromN_cons i, big_insert (not_mem_fromN i)]
  iintro ⟨#HC, ⟨%W, HO⟩, ⟨⟨Ht, Hr, Hp⟩, HT⟩⟩ Hk
  iapply (Rounds.wp_signal 𝒱₀ ER (Rd X0 X1 X2) (c : Thread nD τ) none (dst := (peer i c : Thread nD τ)) (sem := barS) (r := 0) (d := back i)
      (κ := K (barCell (peer i c))) (by rw [duties_bar]; exact Finset.mem_univ _) (amount_bar X0 X1 X2 (peer i c) (back i)) ()
      (O₀ := owedT c 0 + owedB c i.val) (owedT c 0 + owedB c (i.val + 1)) (by rw [owedB_step c i, add_assoc])) $$ [HO Ht Hr Hp]
  · isplitr; · iapply (cells_bar X0 X1 X2 K (peer i c)); iexact HC
    isplitl [HO]; · iexact HO
    isplitl [Ht]; · iexact Ht
    isplitl [Hp]; · rw [payload_bar]; iexact Hp
    iexact Hr
  iintro HO
  iapply Hk
  isplitr; · iexact HC
  isplitl [HO]; · iexists W; iexact HO
  iexact HT

/-- What a device holds across the barrier, besides what it hands over there. -/
def Held (c : Dev nD) : sProp 𝕄 :=
  iprop(levAts L lv
    ∗ bigSep Finset.univ (fun x : Fin 18 => iprop(dutyTok ER (sndCell x c) 0 (0 : Fin 6) ∗ reached ER (sndCell x c) 0
        ∗ dutyTok ER (rcvCell x (tgt x c)) 0 (0 : Fin 6) ∗ atPos ER (sndCell x c) 0 (∅ : Finset (Fin 6)) 0))
    ∗ bigSep Finset.univ (pend (F := F) c) ∗ bigSep (bits 7) (fun x => lent X0 X1 X2 x c))

theorem todo_intro (c : Dev nD) :
    iprop(bigSep Finset.univ (fun x : Fin 18 => iprop(dutyTok ER (sndCell x c) 0 (0 : Fin 6) ∗ reached ER (sndCell x c) 0
        ∗ dutyTok ER (rcvCell x (tgt x c)) 0 (0 : Fin 6) ∗ atPos ER (sndCell x c) 0 (∅ : Finset (Fin 6)) 0))
      ∗ bigSep Finset.univ (fun x : Fin 18 => iprop(land (F := F) x (tgt x c) ∗ reached ER (rcvCell x (tgt x c)) 0)))
      ⊢ (bigSep Finset.univ (todo c) : sProp 𝕄) := by
  rw [← bigSep_sep']
  refine big_mono fun x _ => ?_
  unfold todo
  iintro ⟨⟨H1, H2, H3, H4⟩, H5⟩
  isplitl [H1]; · iexact H1
  isplitl [H2]; · iexact H2
  isplitl [H3]; · iexact H3
  isplitl [H5]; · iexact H5
  iexact H4

/-- The barrier is waited for: the landing places on the peers come with it, and the transfers may start. -/
theorem barrier_step {k : PUnit → Prog (TpuEff nD τ sig (Elt F) Λ₀ .tc) α} :
    iprop(Bar X0 X1 X2 K c 6 ∗ Held X0 X1 X2 c ∗ cred (tallyAt (barCell c) () 6) ∗ atPos ER (barCell c) 0 (∅ : Finset (Fin 6)) 0)
      ⊢ iprop((iprop(St X0 X1 X2 K c 0 0 262143 7 0 ∗ atPos ER (barCell c) 1 (∅ : Finset (Fin 6)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 6) k) Q) := by
  unfold Bar Held
  rw [owedB_end, add_zero]
  iintro ⟨⟨#HC, ⟨%W, HO⟩, -⟩, ⟨#HL, HT, HP, HS⟩, Hc, Hat⟩ Hk
  iapply (Rounds.wp_wait_rest_token 𝒱₀ ER (Rd X0 X1 X2) (c : Thread nD τ) none (κ := K (barCell c))
      (wpE_semWait_eq 𝒱₀ (c : Thread nD τ) none Set.univ) (Set.mem_univ _) () (O := owedT c 0) (W := W) (R := 0) (m := 0) (T := ∅)
      ((Nat.zero_add 6).trans (expect_bar X0 X1 X2 c).symm)) $$ [Hc HO Hat]
  · isplitr; · iapply (cells_bar X0 X1 X2 K c); iexact HC
    isplitl [Hc]; · iexact Hc
    isplitl [HO]; · iexact HO
    isplitr; · iapply (mayWait c (.reg barS) 0 (by decide)); iexact HL
    iexact Hat
  iintro ⟨HO, Hat, -, Hpay⟩
  ihave Hp := (Entails.of_eq (rest_bar X0 X1 X2 c)) $$ Hpay
  iapply Hk
  isplitr [Hat]
  · unfold St
    isplitr; · iexact HC
    isplitr; · iexact HL
    isplitl [HO]; · iexists _; iexact HO
    isplitl [HT Hp]
    · rw [show (fromN 0 : Finset (Fin 18)) = Finset.univ from by decide]
      iapply (todo_intro (F := F) c)
      isplitl [HT]; · iexact HT
      iexact Hp
    isplitr; · rw [show between 0 0 = ∅ from by decide, bigSep_empty]; iempintro
    isplitr; · rw [show (below 0 : Finset (Fin 18)) = ∅ from by decide, bigSep_empty]; iempintro
    isplitl [HP]; · rw [show bits 262143 = Finset.univ from by decide +kernel]; iexact HP
    isplitr; · rw [show bits (262143 - 262143) = ∅ from by decide +kernel, bigSep_empty]; iempintro
    isplitl [HS]; · iexact HS
    rw [show bits 0 = ∅ from by decide +kernel, bigSep_empty]; iempintro
  · iexact Hat

end Cert.Proof
-- ==== Proof.Runs.lean ====
/-
  THE STEPS, each as what is left to show of a program that begins with it; and what each case of the program passes on.
-/
module

public import proofs.«01_k».proof.Proof.Steps

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (X0 : Dev nD → S128x512.Idx → Elt F .f32) (X1 : Dev nD → S32x512.Idx → Elt F .f32) (X2 : Dev nD → S1x512.Idx → Elt F .f32)

local notation "𝕄" => MT nD τ sig Unit (Elt F) ℕ UU ℕ

variable {α : Type} {Q : α → sProp (MT nD τ sig Unit (Elt F) ℕ UU ℕ)} {K : GSem nD τ sig → ℕ} {c : Dev nD}
variable {P : sProp (MT nD τ sig Unit (Elt F) ℕ UU ℕ)}

theorem send_run (x : Fin 18) (n n' w R S S' A : ℕ) (hn : n = x.val) (hn' : n' = x.val + 1) (hS : Adds x S' S) (hw : w ≤ x.val)
    {p : Dev nD} {src dst : Memref sig .tc .vmem S32x512 .f32}
    {sS rS : DmaSem sig} {h0 : dst.view.ref.isScScratch = false}
    {hsrc : src.view.WordExact} {hdst : dst.view.WordExact} {hsem : DmaTarget.Typed .vmem (SemLoc.dma rS) (.remote (Dev.tc p) dst (.dma sS) h0)}
    {k : PUnit → Prog (TpuEff nD τ sig (Elt F) Λ₀ .tc) α}
    (hp : p = tgt x c) (hs : src = srcM x c) (hd : dst = dstM x c) (hsS : sS = sndS x) (hrS : rS = rcvS x)
    (hk : iprop(St X0 X1 X2 K c n' w R S' A ∗ P) ⊢ wp frame (wpE (defs₀ (F := F)) 𝒱₀ (c : Thread nD τ) none) Set.univ (k ⟨⟩) Q) :
    iprop(St X0 X1 X2 K c n w R S A ∗ P)
      ⊢ wp frame (wpE (defs₀ (F := F)) 𝒱₀ (c : Thread nD τ) none) Set.univ (.op (.enqueueDma src (.remote (Dev.tc p) dst (.dma sS) h0) (.dma rS) hsrc hdst hsem) k) Q := by
  iintro ⟨H, Hp⟩
  iapply (send_step X0 X1 X2 x n n' w R S S' A hn hn' hS hw hp hs hd hsS hrS) $$ H
  iintro H
  iapply hk
  isplitl [H]; · iexact H
  iexact Hp

theorem recv_run (x : Fin 18) (n w R R' S A A' : ℕ) (hR : Adds x R' R) (hR' : Adds x (262143 - R) (262143 - R')) (hA : Adds x A A')
    (hlev : ∀ y : Fin 18, n ≤ y.val → lvS (rcvS x) < lvS (rcvS y))
    {src dst : Memref sig .tc .vmem S32x512 .f32} {rS : DmaSem sig}
    {hsrc : src.view.WordExact} {hdst : dst.view.WordExact}
    {k : PUnit → Prog (TpuEff nD τ sig (Elt F) Λ₀ .tc) α} (hrS : rS = rcvS x) (hN : dst.view.dmaCredit = N)
    (hk : iprop(St X0 X1 X2 K c n w R' S A' ∗ P) ⊢ wp frame (wpE (defs₀ (F := F)) 𝒱₀ (c : Thread nD τ) none) Set.univ (k ⟨⟩) Q) :
    iprop(St X0 X1 X2 K c n w R S A ∗ P) ⊢ wp frame (wpE (defs₀ (F := F)) 𝒱₀ (c : Thread nD τ) none) Set.univ (.op (.waitDma2 rS src dst hsrc hdst) k) Q := by
  iintro ⟨H, Hp⟩
  iapply (recv_step X0 X1 X2 x n w R R' S A A' hR hR' hA hlev hrS hN) $$ H
  iintro H
  iapply hk
  isplitl [H]; · iexact H
  iexact Hp

theorem fwd_run (k : Fin 3) (x : Fin 18) (n w R R' S S1 S2 S3 A A' : ℕ) (hx : x3 (arrival c k) = x) (hR : Adds x R' R)
    (hR' : Adds x (262143 - R) (262143 - R')) (h1 : Adds (fwd k 0) S S1) (h2 : Adds (fwd k 1) S1 S2) (h3 : Adds (fwd k 2) S2 S3)
    (hA : Adds x A A') (hlev : ∀ y : Fin 18, n ≤ y.val → lvS (rcvS x) < lvS (rcvS y))
    {src dst : Memref sig .tc .vmem S32x512 .f32} {rS : DmaSem sig}
    {hsrc : src.view.WordExact} {hdst : dst.view.WordExact}
    {k' : PUnit → Prog (TpuEff nD τ sig (Elt F) Λ₀ .tc) α} (hrS : rS = rcvS x) (hN : dst.view.dmaCredit = N)
    (hk : iprop(St X0 X1 X2 K c n w R' S3 A ∗ P) ⊢ wp frame (wpE (defs₀ (F := F)) 𝒱₀ (c : Thread nD τ) none) Set.univ (k' ⟨⟩) Q) :
    iprop(St X0 X1 X2 K c n w R S A ∗ P) ⊢ wp frame (wpE (defs₀ (F := F)) 𝒱₀ (c : Thread nD τ) none) Set.univ (.op (.waitDma2 rS src dst hsrc hdst) k') Q := by
  iintro ⟨H, Hp⟩
  iapply (fwd_step X0 X1 X2 k x hx n w R R' S S1 S2 S3 A hR hR' h1 h2 h3 A' hA hlev hrS hN) $$ H
  iintro H
  iapply hk
  isplitl [H]; · iexact H
  iexact Hp

theorem depart_run (x : Fin 18) (w w' R S S' A : ℕ) (hw : w = x.val) (hw' : w' = x.val + 1) (hS : Adds x S S')
    {src dst : Memref sig .tc .vmem S32x512 .f32} {sS : DmaSem sig}
    {hsrc : src.view.WordExact} {hdst : dst.view.WordExact}
    {k : PUnit → Prog (TpuEff nD τ sig (Elt F) Λ₀ .tc) α} (hsS : sS = sndS x) (hN : dst.view.dmaCredit = N)
    (hk : iprop(St X0 X1 X2 K c 18 w' R S' A ∗ P) ⊢ wp frame (wpE (defs₀ (F := F)) 𝒱₀ (c : Thread nD τ) none) Set.univ (k ⟨⟩) Q) :
    iprop(St X0 X1 X2 K c 18 w R S A ∗ P) ⊢ wp frame (wpE (defs₀ (F := F)) 𝒱₀ (c : Thread nD τ) none) Set.univ (.op (.waitDma2 sS src dst hsrc hdst) k) Q := by
  iintro ⟨H, Hp⟩
  iapply (depart_step X0 X1 X2 x w w' R S S' A hw hw' hS hsS hN) $$ H
  iintro H
  iapply hk
  isplitl [H]; · iexact H
  iexact Hp

/-- The end of a part: its results are handed on. -/
theorem ret_run {T : sProp (MT nD τ sig Unit (Elt F) ℕ UU ℕ)} (r : α) : iprop(T ∗ (∀ r, T -∗ Q r)) ⊢ wp frame (wpE (defs₀ (F := F)) 𝒱₀ (c : Thread nD τ) none) Set.univ (.ret r) Q := by
  rw [wp_ret]
  iintro ⟨H, Hk⟩
  imodintro
  iapply Hk
  iexact H

/-! ### What each case passes on -/

theorem pass1 : ∀ c : Dev nD, k0_cond1 c = 1#1 → x3 (arrival c 0) = 5 ∧ x3 (arrival c 1) = 4 ∧ x3 (arrival c 2) = 3 := by decide +kernel
theorem pass2 : ∀ c : Dev nD, k0_cond2 c = 1#1 → x3 (arrival c 0) = 3 ∧ x3 (arrival c 1) = 5 ∧ x3 (arrival c 2) = 4 := by decide +kernel
theorem pass3 : ∀ c : Dev nD, k0_cond3 c = 1#1 → x3 (arrival c 0) = 3 ∧ x3 (arrival c 1) = 5 ∧ x3 (arrival c 2) = 4 := by decide +kernel
theorem pass4 : ∀ c : Dev nD, k0_cond4 c = 1#1 → x3 (arrival c 0) = 3 ∧ x3 (arrival c 1) = 4 ∧ x3 (arrival c 2) = 5 := by decide +kernel

theorem src_rows (i : Fin 3) (c : Dev nD) : rowsM (rowsOf i c) = srcM ⟨i.val, by omega⟩ c := by
  unfold srcM; rw [dif_pos (show (⟨i.val, by omega⟩ : Fin 18).val < 3 from i.isLt)]
theorem src_own (x : Fin 18) (h : ¬ x.val < 3) (h' : x.val < 9) (c : Dev nD) : outM c = srcM x c := by
  unfold srcM piece; rw [dif_neg h, if_pos h']
theorem dst_own (x : Fin 18) (h : ¬ x.val < 3) (h' : x.val < 9) (c : Dev nD) : outM c = dstM x c := by
  unfold dstM piece; rw [dif_neg h, if_pos h']
theorem src_turn (k r : Fin 3) (c : Dev nD) : outM (turn c k) = srcM (fwd k r) c := by
  have hp : piece (fwd k r) c = turn c k := by
    unfold piece; rw [if_neg (show ¬ (fwd k r).val < 9 by show ¬ 9 + 3 * k.val + r.val < 9; omega)]
    congr 1; apply Fin.ext; show (9 + 3 * k.val + r.val - 9) / 3 % 3 = k.val; omega
  unfold srcM; rw [dif_neg (show ¬ (fwd k r).val < 3 by show ¬ 9 + 3 * k.val + r.val < 3; omega), hp]
theorem dst_turn (k r : Fin 3) (c : Dev nD) : outM (turn c k) = dstM (fwd k r) c := by
  have hp : piece (fwd k r) c = turn c k := by
    unfold piece; rw [if_neg (show ¬ (fwd k r).val < 9 by show ¬ 9 + 3 * k.val + r.val < 9; omega)]
    congr 1; apply Fin.ext; show (9 + 3 * k.val + r.val - 9) / 3 % 3 = k.val; omega
  unfold dstM; rw [dif_neg (show ¬ (fwd k r).val < 3 by show ¬ 9 + 3 * k.val + r.val < 3; omega), hp]

end Cert.Proof
-- ==== Proof.PartsA.lean ====
/-
  THE PARTS of the program that every device runs alike: what each makes of the device's state.
-/
module

public import proofs.«01_k».proof.Proof.Runs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (X0 : Dev nD → S128x512.Idx → Elt F .f32) (X1 : Dev nD → S32x512.Idx → Elt F .f32) (X2 : Dev nD → S1x512.Idx → Elt F .f32)

local notation "𝕄" => MT nD τ sig Unit (Elt F) ℕ UU ℕ

variable {K : GSem nD τ sig → ℕ} {c : Dev nD}

theorem part20_run (Kt : (PUnit) → sProp (MT nD τ sig Unit (Elt F) ℕ UU ℕ)) (h0 h1 h2 h3 h4) (v2 v5 v35 v46 : BitVec 32) :
    iprop(St X0 X1 X2 K c 0 0 262143 7 0 ∗ (∀ r, St X0 X1 X2 K c 3 0 262143 0 0 -∗ Kt r))
      ⊢ wp frame (wpE (defs₀ (F := F)) 𝒱₀ (c : Thread nD τ) none) Set.univ
          (k0_part20 M0 h0 M1 h1 M2 h2 M3 h3 M4 h4 cc0_scratch1 cc0_scratch2 cc0_scratch3 cc0_scratch4 cc0_scratch5 cc0_scratch6 c v2 v5 v35 v46) Kt := by
  rw [k0_part20_eq_skeleton]
  unfold k0_part20_skel
  simp only [Prog.lift, Prog.bind_op, Prog.bind_ret, Prog.pure_eq_ret]
  refine send_run X0 X1 X2 0 0 1 0 262143 7 6 0 rfl rfl (by decide +kernel) (by decide) (by exact dev7 c) (by exact (rows_of (rowsOf 0 c) (off1_eq c 0) _ _).trans (src_rows 0 c)) (by rfl) (by rfl) (by rfl) ?_
  refine send_run X0 X1 X2 1 1 2 0 262143 6 4 0 rfl rfl (by decide +kernel) (by decide) (by exact dev8 c) (by exact (rows_of (rowsOf 1 c) (off1_eq c 1) _ _).trans (src_rows 1 c)) (by rfl) (by rfl) (by rfl) ?_
  refine send_run X0 X1 X2 2 2 3 0 262143 4 0 0 rfl rfl (by decide +kernel) (by decide) (by exact dev9 c) (by exact (rows_of (rowsOf 2 c) (off1_eq c 2) _ _).trans (src_rows 2 c)) (by rfl) (by rfl) (by rfl) ?_
  exact ret_run _

theorem part21_run (Kt : (PUnit) → sProp (MT nD τ sig Unit (Elt F) ℕ UU ℕ)) (h0 h1 h2 h3 h4) (v2 v5 v24 v35 v46 : BitVec 32) :
    iprop(St X0 X1 X2 K c 3 0 262143 0 0 ∗ (∀ r, St X0 X1 X2 K c 3 0 262140 0 3 -∗ Kt r))
      ⊢ wp frame (wpE (defs₀ (F := F)) 𝒱₀ (c : Thread nD τ) none) Set.univ
          (k0_part21 M0 h0 M1 h1 M2 h2 M3 h3 M4 h4 cc0_scratch1 cc0_scratch2 cc0_scratch3 cc0_scratch4 cc0_scratch5 cc0_scratch6 c v2 v5 v24 v35 v46) Kt := by
  rw [k0_part21_eq_skeleton]
  unfold k0_part21_skel
  simp only [Prog.lift, Prog.bind_op, Prog.bind_ret, Prog.pure_eq_ret]
  refine recv_run X0 X1 X2 0 3 0 262143 262142 0 0 1 (by decide +kernel) (by decide +kernel) (by decide +kernel) (by decide +kernel) (by rfl) (by rfl) ?_
  refine recv_run X0 X1 X2 1 3 0 262142 262140 0 1 3 (by decide +kernel) (by decide +kernel) (by decide +kernel) (by decide +kernel) (by rfl) (by rfl) ?_
  exact ret_run _

theorem part23_run (Kt : (PUnit) → sProp (MT nD τ sig Unit (Elt F) ℕ UU ℕ)) (h0 h1 h2 h3 h4) (v2 v5 v24 v35 v46 : BitVec 32) :
    iprop(St X0 X1 X2 K c 3 0 262136 504 7 ∗ (∀ r, St X0 X1 X2 K c 5 0 262136 480 7 -∗ Kt r))
      ⊢ wp frame (wpE (defs₀ (F := F)) 𝒱₀ (c : Thread nD τ) none) Set.univ
          (k0_part23 M0 h0 M1 h1 M2 h2 M3 h3 M4 h4 cc0_scratch1 cc0_scratch2 cc0_scratch3 cc0_scratch4 cc0_scratch5 cc0_scratch6 c v2 v5 v24 v35 v46) Kt := by
  rw [k0_part23_eq_skeleton]
  unfold k0_part23_skel
  simp only [Prog.lift, Prog.bind_op, Prog.bind_ret, Prog.pure_eq_ret]
  refine send_run X0 X1 X2 3 3 4 0 262136 504 496 7 rfl rfl (by decide +kernel) (by decide) (by exact dev10 c) (by exact (out_of c (off4_eq c) _ _).trans (src_own 3 (by decide) (by decide) c)) (by exact (out_of c (off4_eq c) _ _).trans (dst_own 3 (by decide) (by decide) c)) (by rfl) (by rfl) ?_
  refine send_run X0 X1 X2 4 4 5 0 262136 496 480 7 rfl rfl (by decide +kernel) (by decide) (by exact dev11 c) (by exact (out_of c (off4_eq c) _ _).trans (src_own 4 (by decide) (by decide) c)) (by exact (out_of c (off4_eq c) _ _).trans (dst_own 4 (by decide) (by decide) c)) (by rfl) (by rfl) ?_
  exact ret_run _

theorem part24_run (Kt : (Σ' (v258 : BitVec 32), BitVec 32) → sProp (MT nD τ sig Unit (Elt F) ℕ UU ℕ)) (h0 h1 h2 h3 h4) (v2 v5 v8 v47 v48 v49 v50 : BitVec 32) :
    iprop(St X0 X1 X2 K c 5 0 262136 480 7 ∗ (∀ r, St X0 X1 X2 K c 8 0 262136 256 7 -∗ Kt r))
      ⊢ wp frame (wpE (defs₀ (F := F)) 𝒱₀ (c : Thread nD τ) none) Set.univ
          (k0_part24 M0 h0 M1 h1 M2 h2 M3 h3 M4 h4 cc0_scratch1 cc0_scratch2 cc0_scratch3 cc0_scratch4 cc0_scratch5 cc0_scratch6 c v2 v5 v8 v47 v48 v49 v50) Kt := by
  rw [k0_part24_eq_skeleton]
  unfold k0_part24_skel
  simp only [Prog.lift, Prog.bind_op, Prog.bind_ret, Prog.pure_eq_ret]
  refine send_run X0 X1 X2 5 5 6 0 262136 480 448 7 rfl rfl (by decide +kernel) (by decide) (by exact dev12 c) (by exact (out_of c (off4_eq c) _ _).trans (src_own 5 (by decide) (by decide) c)) (by exact (out_of c (off4_eq c) _ _).trans (dst_own 5 (by decide) (by decide) c)) (by rfl) (by rfl) ?_
  refine send_run X0 X1 X2 6 6 7 0 262136 448 384 7 rfl rfl (by decide +kernel) (by decide) (by exact dev13 c) (by exact (out_of c (off4_eq c) _ _).trans (src_own 6 (by decide) (by decide) c)) (by exact (out_of c (off4_eq c) _ _).trans (dst_own 6 (by decide) (by decide) c)) (by rfl) (by rfl) ?_
  refine send_run X0 X1 X2 7 7 8 0 262136 384 256 7 rfl rfl (by decide +kernel) (by decide) (by exact dev14 c) (by exact (out_of c (off4_eq c) _ _).trans (src_own 7 (by decide) (by decide) c)) (by exact (out_of c (off4_eq c) _ _).trans (dst_own 7 (by decide) (by decide) c)) (by rfl) (by rfl) ?_
  exact ret_run _

theorem part26_run (Kt : (PUnit) → sProp (MT nD τ sig Unit (Elt F) ℕ UU ℕ)) (h0 h1 h2 h3 h4) (v2 v5 v8 v47 v48 v49 v50 : BitVec 32) :
    iprop(St X0 X1 X2 K c 18 0 262080 0 7 ∗ (∀ r, St X0 X1 X2 K c 18 0 261888 0 199 -∗ Kt r))
      ⊢ wp frame (wpE (defs₀ (F := F)) 𝒱₀ (c : Thread nD τ) none) Set.univ
          (k0_part26 M0 h0 M1 h1 M2 h2 M3 h3 M4 h4 cc0_scratch1 cc0_scratch2 cc0_scratch3 cc0_scratch4 cc0_scratch5 cc0_scratch6 c v2 v5 v8 v47 v48 v49 v50) Kt := by
  rw [k0_part26_eq_skeleton]
  unfold k0_part26_skel
  simp only [Prog.lift, Prog.bind_op, Prog.bind_ret, Prog.pure_eq_ret]
  refine recv_run X0 X1 X2 6 18 0 262080 262016 0 7 71 (by decide +kernel) (by decide +kernel) (by decide +kernel) (by decide +kernel) (by rfl) (by rfl) ?_
  refine recv_run X0 X1 X2 7 18 0 262016 261888 0 71 199 (by decide +kernel) (by decide +kernel) (by decide +kernel) (by decide +kernel) (by rfl) (by rfl) ?_
  exact ret_run _

theorem part27_run (Kt : (PUnit) → sProp (MT nD τ sig Unit (Elt F) ℕ UU ℕ)) (h0 h1 h2 h3 h4) (v2 v5 v8 v47 v48 v49 v50 : BitVec 32) :
    iprop(St X0 X1 X2 K c 18 0 261888 0 199 ∗ (∀ r, St X0 X1 X2 K c 18 0 260096 0 1991 -∗ Kt r))
      ⊢ wp frame (wpE (defs₀ (F := F)) 𝒱₀ (c : Thread nD τ) none) Set.univ
          (k0_part27 M0 h0 M1 h1 M2 h2 M3 h3 M4 h4 cc0_scratch1 cc0_scratch2 cc0_scratch3 cc0_scratch4 cc0_scratch5 cc0_scratch6 c v2 v5 v8 v47 v48 v49 v50) Kt := by
  rw [k0_part27_eq_skeleton]
  unfold k0_part27_skel
  simp only [Prog.lift, Prog.bind_op, Prog.bind_ret, Prog.pure_eq_ret]
  refine recv_run X0 X1 X2 8 18 0 261888 261632 0 199 455 (by decide +kernel) (by decide +kernel) (by decide +kernel) (by decide +kernel) (by rfl) (by rfl) ?_
  refine recv_run X0 X1 X2 9 18 0 261632 261120 0 455 967 (by decide +kernel) (by decide +kernel) (by decide +kernel) (by decide +kernel) (by rfl) (by rfl) ?_
  refine recv_run X0 X1 X2 10 18 0 261120 260096 0 967 1991 (by decide +kernel) (by decide +kernel) (by decide +kernel) (by decide +kernel) (by rfl) (by rfl) ?_
  exact ret_run _

theorem part28_run (Kt : (PUnit) → sProp (MT nD τ sig Unit (Elt F) ℕ UU ℕ)) (h0 h1 h2 h3 h4) (v2 v5 v8 v47 v48 v49 v50 : BitVec 32) :
    iprop(St X0 X1 X2 K c 18 0 260096 0 1991 ∗ (∀ r, St X0 X1 X2 K c 18 0 245760 0 16327 -∗ Kt r))
      ⊢ wp frame (wpE (defs₀ (F := F)) 𝒱₀ (c : Thread nD τ) none) Set.univ
          (k0_part28 M0 h0 M1 h1 M2 h2 M3 h3 M4 h4 cc0_scratch1 cc0_scratch2 cc0_scratch3 cc0_scratch4 cc0_scratch5 cc0_scratch6 c v2 v5 v8 v47 v48 v49 v50) Kt := by
  rw [k0_part28_eq_skeleton]
  unfold k0_part28_skel
  simp only [Prog.lift, Prog.bind_op, Prog.bind_ret, Prog.pure_eq_ret]
  refine recv_run X0 X1 X2 11 18 0 260096 258048 0 1991 4039 (by decide +kernel) (by decide +kernel) (by decide +kernel) (by decide +kernel) (by rfl) (by rfl) ?_
  refine recv_run X0 X1 X2 12 18 0 258048 253952 0 4039 8135 (by decide +kernel) (by decide +kernel) (by decide +kernel) (by decide +kernel) (by rfl) (by rfl) ?_
  refine recv_run X0 X1 X2 13 18 0 253952 245760 0 8135 16327 (by decide +kernel) (by decide +kernel) (by decide +kernel) (by decide +kernel) (by rfl) (by rfl) ?_
  exact ret_run _

theorem part29_run (Kt : (BitVec 32) → sProp (MT nD τ sig Unit (Elt F) ℕ UU ℕ)) (h0 h1 h2 h3 h4) (v2 v5 v8 v47 v48 v49 v50 : BitVec 32) :
    iprop(St X0 X1 X2 K c 18 0 245760 0 16327 ∗ (∀ r, St X0 X1 X2 K c 18 0 131072 0 131015 -∗ Kt r))
      ⊢ wp frame (wpE (defs₀ (F := F)) 𝒱₀ (c : Thread nD τ) none) Set.univ
          (k0_part29 M0 h0 M1 h1 M2 h2 M3 h3 M4 h4 cc0_scratch1 cc0_scratch2 cc0_scratch3 cc0_scratch4 cc0_scratch5 cc0_scratch6 c v2 v5 v8 v47 v48 v49 v50) Kt := by
  rw [k0_part29_eq_skeleton]
  unfold k0_part29_skel
  simp only [Prog.lift, Prog.bind_op, Prog.bind_ret, Prog.pure_eq_ret]
  refine recv_run X0 X1 X2 14 18 0 245760 229376 0 16327 32711 (by decide +kernel) (by decide +kernel) (by decide +kernel) (by decide +kernel) (by rfl) (by rfl) ?_
  refine recv_run X0 X1 X2 15 18 0 229376 196608 0 32711 65479 (by decide +kernel) (by decide +kernel) (by decide +kernel) (by decide +kernel) (by rfl) (by rfl) ?_
  refine recv_run X0 X1 X2 16 18 0 196608 131072 0 65479 131015 (by decide +kernel) (by decide +kernel) (by decide +kernel) (by decide +kernel) (by rfl) (by rfl) ?_
  exact ret_run _

theorem part30_run (Kt : (PUnit) → sProp (MT nD τ sig Unit (Elt F) ℕ UU ℕ)) (h0 h1 h2 h3 h4) (v8 v392 : BitVec 32) :
    iprop(St X0 X1 X2 K c 18 0 131072 0 131015 ∗ (∀ r, St X0 X1 X2 K c 18 4 0 15 262087 -∗ Kt r))
      ⊢ wp frame (wpE (defs₀ (F := F)) 𝒱₀ (c : Thread nD τ) none) Set.univ
          (k0_part30 M0 h0 M1 h1 M2 h2 M3 h3 M4 h4 cc0_scratch1 cc0_scratch2 cc0_scratch3 cc0_scratch4 cc0_scratch5 cc0_scratch6 c v8 v392) Kt := by
  rw [k0_part30_eq_skeleton]
  unfold k0_part30_skel
  simp only [Prog.lift, Prog.bind_op, Prog.bind_ret, Prog.pure_eq_ret]
  refine recv_run X0 X1 X2 17 18 0 131072 0 0 131015 262087 (by decide +kernel) (by decide +kernel) (by decide +kernel) (by decide +kernel) (by rfl) (by rfl) ?_
  refine depart_run X0 X1 X2 0 0 1 0 0 1 262087 rfl rfl (by decide +kernel) (by rfl) (by rfl) ?_
  refine depart_run X0 X1 X2 1 1 2 0 1 3 262087 rfl rfl (by decide +kernel) (by rfl) (by rfl) ?_
  refine depart_run X0 X1 X2 2 2 3 0 3 7 262087 rfl rfl (by decide +kernel) (by rfl) (by rfl) ?_
  refine depart_run X0 X1 X2 3 3 4 0 7 15 262087 rfl rfl (by decide +kernel) (by rfl) (by rfl) ?_
  exact ret_run _

theorem part31_run (Kt : (PUnit) → sProp (MT nD τ sig Unit (Elt F) ℕ UU ℕ)) (h0 h1 h2 h3 h4) :
    iprop(St X0 X1 X2 K c 18 4 0 15 262087 ∗ (∀ r, St X0 X1 X2 K c 18 9 0 511 262087 -∗ Kt r))
      ⊢ wp frame (wpE (defs₀ (F := F)) 𝒱₀ (c : Thread nD τ) none) Set.univ
          (k0_part31 M0 h0 M1 h1 M2 h2 M3 h3 M4 h4 cc0_scratch1 cc0_scratch2 cc0_scratch3 cc0_scratch4 cc0_scratch5 cc0_scratch6 c) Kt := by
  rw [k0_part31_eq_skeleton]
  unfold k0_part31_skel
  simp only [Prog.lift, Prog.bind_op, Prog.bind_ret, Prog.pure_eq_ret]
  refine depart_run X0 X1 X2 4 4 5 0 15 31 262087 rfl rfl (by decide +kernel) (by rfl) (by rfl) ?_
  refine depart_run X0 X1 X2 5 5 6 0 31 63 262087 rfl rfl (by decide +kernel) (by rfl) (by rfl) ?_
  refine depart_run X0 X1 X2 6 6 7 0 63 127 262087 rfl rfl (by decide +kernel) (by rfl) (by rfl) ?_
  refine depart_run X0 X1 X2 7 7 8 0 127 255 262087 rfl rfl (by decide +kernel) (by rfl) (by rfl) ?_
  refine depart_run X0 X1 X2 8 8 9 0 255 511 262087 rfl rfl (by decide +kernel) (by rfl) (by rfl) ?_
  exact ret_run _

theorem part32_run (Kt : (PUnit) → sProp (MT nD τ sig Unit (Elt F) ℕ UU ℕ)) (h0 h1 h2 h3 h4) :
    iprop(St X0 X1 X2 K c 18 9 0 511 262087 ∗ (∀ r, St X0 X1 X2 K c 18 14 0 16383 262087 -∗ Kt r))
      ⊢ wp frame (wpE (defs₀ (F := F)) 𝒱₀ (c : Thread nD τ) none) Set.univ
          (k0_part32 M0 h0 M1 h1 M2 h2 M3 h3 M4 h4 cc0_scratch1 cc0_scratch2 cc0_scratch3 cc0_scratch4 cc0_scratch5 cc0_scratch6 c) Kt := by
  rw [k0_part32_eq_skeleton]
  unfold k0_part32_skel
  simp only [Prog.lift, Prog.bind_op, Prog.bind_ret, Prog.pure_eq_ret]
  refine depart_run X0 X1 X2 9 9 10 0 511 1023 262087 rfl rfl (by decide +kernel) (by rfl) (by rfl) ?_
  refine depart_run X0 X1 X2 10 10 11 0 1023 2047 262087 rfl rfl (by decide +kernel) (by rfl) (by rfl) ?_
  refine depart_run X0 X1 X2 11 11 12 0 2047 4095 262087 rfl rfl (by decide +kernel) (by rfl) (by rfl) ?_
  refine depart_run X0 X1 X2 12 12 13 0 4095 8191 262087 rfl rfl (by decide +kernel) (by rfl) (by rfl) ?_
  refine depart_run X0 X1 X2 13 13 14 0 8191 16383 262087 rfl rfl (by decide +kernel) (by rfl) (by rfl) ?_
  exact ret_run _

end Cert.Proof
-- ==== Proof.PartsB.lean ====
/-
  THE PARTS that pass pieces on, at the devices of the first two places of the third axis.
-/
module

public import proofs.«01_k».proof.Proof.Runs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (X0 : Dev nD → S128x512.Idx → Elt F .f32) (X1 : Dev nD → S32x512.Idx → Elt F .f32) (X2 : Dev nD → S1x512.Idx → Elt F .f32)

local notation "𝕄" => MT nD τ sig Unit (Elt F) ℕ UU ℕ

variable {K : GSem nD τ sig → ℕ} {c : Dev nD}

theorem part1_run (Kt : (PUnit) → sProp (MT nD τ sig Unit (Elt F) ℕ UU ℕ)) (h0 h1 h2 h3 h4) (v2 v5 v8 v11 v46 v47 v48 : BitVec 32) (hc : k0_cond1 c = 1#1) :
    iprop(St X0 X1 X2 K c 9 0 262136 0 7 ∗ (∀ r, St X0 X1 X2 K c 10 0 262104 3072 7 -∗ Kt r))
      ⊢ wp frame (wpE (defs₀ (F := F)) 𝒱₀ (c : Thread nD τ) none) Set.univ
          (k0_part1 M0 h0 M1 h1 M2 h2 M3 h3 M4 h4 cc0_scratch1 cc0_scratch2 cc0_scratch3 cc0_scratch4 cc0_scratch5 cc0_scratch6 c v2 v5 v8 v11 v46 v47 v48 hc) Kt := by
  rw [k0_part1_eq_skeleton]
  unfold k0_part1_skel
  simp only [Prog.lift, Prog.bind_op, Prog.bind_ret, Prog.pure_eq_ret]
  refine fwd_run X0 X1 X2 0 5 9 0 262136 262104 0 512 1536 3584 7 39 (pass1 c hc).1 (by decide +kernel) (by decide +kernel) (by decide +kernel) (by decide +kernel) (by decide +kernel) (by decide +kernel) (by decide +kernel) (by rfl) (by rfl) ?_
  refine send_run X0 X1 X2 9 9 10 0 262104 3584 3072 7 rfl rfl (by decide +kernel) (by decide) (by exact dev16 c hc) (by exact (out_of (turn c 0) (off6_eq c hc 0) _ _).trans (src_turn 0 0 c)) (by exact (out_of (turn c 0) (off6_eq c hc 0) _ _).trans (dst_turn 0 0 c)) (by rfl) (by rfl) ?_
  exact ret_run _

theorem part2_run (Kt : (Σ' (v535 : BitVec 32), BitVec 32) → sProp (MT nD τ sig Unit (Elt F) ℕ UU ℕ)) (h0 h1 h2 h3 h4) (v2 v5 v8 v11 v35 v47 v49 v50 : BitVec 32) (hc : k0_cond1 c = 1#1) :
    iprop(St X0 X1 X2 K c 10 0 262104 3072 7 ∗ (∀ r, St X0 X1 X2 K c 12 0 262088 28672 7 -∗ Kt r))
      ⊢ wp frame (wpE (defs₀ (F := F)) 𝒱₀ (c : Thread nD τ) none) Set.univ
          (k0_part2 M0 h0 M1 h1 M2 h2 M3 h3 M4 h4 cc0_scratch1 cc0_scratch2 cc0_scratch3 cc0_scratch4 cc0_scratch5 cc0_scratch6 c v2 v5 v8 v11 v35 v47 v49 v50 hc) Kt := by
  rw [k0_part2_eq_skeleton]
  unfold k0_part2_skel
  simp only [Prog.lift, Prog.bind_op, Prog.bind_ret, Prog.pure_eq_ret]
  refine send_run X0 X1 X2 10 10 11 0 262104 3072 2048 7 rfl rfl (by decide +kernel) (by decide) (by exact dev17 c hc) (by exact (out_of (turn c 0) (off6_eq c hc 0) _ _).trans (src_turn 0 1 c)) (by exact (out_of (turn c 0) (off6_eq c hc 0) _ _).trans (dst_turn 0 1 c)) (by rfl) (by rfl) ?_
  refine send_run X0 X1 X2 11 11 12 0 262104 2048 0 7 rfl rfl (by decide +kernel) (by decide) (by exact dev18 c hc) (by exact (out_of (turn c 0) (off6_eq c hc 0) _ _).trans (src_turn 0 2 c)) (by exact (out_of (turn c 0) (off6_eq c hc 0) _ _).trans (dst_turn 0 2 c)) (by rfl) (by rfl) ?_
  refine fwd_run X0 X1 X2 1 4 12 0 262104 262088 0 4096 12288 28672 7 23 (pass1 c hc).2.1 (by decide +kernel) (by decide +kernel) (by decide +kernel) (by decide +kernel) (by decide +kernel) (by decide +kernel) (by decide +kernel) (by rfl) (by rfl) ?_
  exact ret_run _

theorem part3_run (Kt : (BitVec 32) → sProp (MT nD τ sig Unit (Elt F) ℕ UU ℕ)) (h0 h1 h2 h3 h4) (v2 v8 v48 v49 v50 v535 v536 : BitVec 32) (hc : k0_cond1 c = 1#1) :
    iprop(St X0 X1 X2 K c 12 0 262088 28672 7 ∗ (∀ r, St X0 X1 X2 K c 15 0 262088 0 7 -∗ Kt r))
      ⊢ wp frame (wpE (defs₀ (F := F)) 𝒱₀ (c : Thread nD τ) none) Set.univ
          (k0_part3 M0 h0 M1 h1 M2 h2 M3 h3 M4 h4 cc0_scratch1 cc0_scratch2 cc0_scratch3 cc0_scratch4 cc0_scratch5 cc0_scratch6 c v2 v8 v48 v49 v50 hc v535 v536) Kt := by
  rw [k0_part3_eq_skeleton]
  unfold k0_part3_skel
  simp only [Prog.lift, Prog.bind_op, Prog.bind_ret, Prog.pure_eq_ret]
  refine send_run X0 X1 X2 12 12 13 0 262088 28672 24576 7 rfl rfl (by decide +kernel) (by decide) (by exact dev19 c hc) (by exact (out_of (turn c 1) (off6_eq c hc 1) _ _).trans (src_turn 1 0 c)) (by exact (out_of (turn c 1) (off6_eq c hc 1) _ _).trans (dst_turn 1 0 c)) (by rfl) (by rfl) ?_
  refine send_run X0 X1 X2 13 13 14 0 262088 24576 16384 7 rfl rfl (by decide +kernel) (by decide) (by exact dev20 c hc) (by exact (out_of (turn c 1) (off6_eq c hc 1) _ _).trans (src_turn 1 1 c)) (by exact (out_of (turn c 1) (off6_eq c hc 1) _ _).trans (dst_turn 1 1 c)) (by rfl) (by rfl) ?_
  refine send_run X0 X1 X2 14 14 15 0 262088 16384 0 7 rfl rfl (by decide +kernel) (by decide) (by exact dev21 c hc) (by exact (out_of (turn c 1) (off6_eq c hc 1) _ _).trans (src_turn 1 2 c)) (by exact (out_of (turn c 1) (off6_eq c hc 1) _ _).trans (dst_turn 1 2 c)) (by rfl) (by rfl) ?_
  exact ret_run _

theorem part4_run (Kt : (PUnit) → sProp (MT nD τ sig Unit (Elt F) ℕ UU ℕ)) (h0 h1 h2 h3 h4) (v2 v5 v8 v11 v24 v47 v48 v569 : BitVec 32) (hc : k0_cond1 c = 1#1) :
    iprop(St X0 X1 X2 K c 15 0 262088 0 7 ∗ (∀ r, St X0 X1 X2 K c 16 0 262080 196608 7 -∗ Kt r))
      ⊢ wp frame (wpE (defs₀ (F := F)) 𝒱₀ (c : Thread nD τ) none) Set.univ
          (k0_part4 M0 h0 M1 h1 M2 h2 M3 h3 M4 h4 cc0_scratch1 cc0_scratch2 cc0_scratch3 cc0_scratch4 cc0_scratch5 cc0_scratch6 c v2 v5 v8 v11 v24 v47 v48 hc v569) Kt := by
  rw [k0_part4_eq_skeleton]
  unfold k0_part4_skel
  simp only [Prog.lift, Prog.bind_op, Prog.bind_ret, Prog.pure_eq_ret]
  refine fwd_run X0 X1 X2 2 3 15 0 262088 262080 0 32768 98304 229376 7 15 (pass1 c hc).2.2 (by decide +kernel) (by decide +kernel) (by decide +kernel) (by decide +kernel) (by decide +kernel) (by decide +kernel) (by decide +kernel) (by rfl) (by rfl) ?_
  refine send_run X0 X1 X2 15 15 16 0 262080 229376 196608 7 rfl rfl (by decide +kernel) (by decide) (by exact dev22 c hc) (by exact (out_of (turn c 2) (off6_eq c hc 2) _ _).trans (src_turn 2 0 c)) (by exact (out_of (turn c 2) (off6_eq c hc 2) _ _).trans (dst_turn 2 0 c)) (by rfl) (by rfl) ?_
  exact ret_run _

theorem part5_run (Kt : (PUnit) → sProp (MT nD τ sig Unit (Elt F) ℕ UU ℕ)) (h0 h1 h2 h3 h4) (v2 v5 v8 v11 v24 v47 v48 : BitVec 32) (hc : k0_cond2 c = 1#1) :
    iprop(St X0 X1 X2 K c 9 0 262136 0 7 ∗ (∀ r, St X0 X1 X2 K c 10 0 262128 3072 7 -∗ Kt r))
      ⊢ wp frame (wpE (defs₀ (F := F)) 𝒱₀ (c : Thread nD τ) none) Set.univ
          (k0_part5 M0 h0 M1 h1 M2 h2 M3 h3 M4 h4 cc0_scratch1 cc0_scratch2 cc0_scratch3 cc0_scratch4 cc0_scratch5 cc0_scratch6 c v2 v5 v8 v11 v24 v47 v48 hc) Kt := by
  rw [k0_part5_eq_skeleton]
  unfold k0_part5_skel
  simp only [Prog.lift, Prog.bind_op, Prog.bind_ret, Prog.pure_eq_ret]
  refine fwd_run X0 X1 X2 0 3 9 0 262136 262128 0 512 1536 3584 7 15 (pass2 c hc).1 (by decide +kernel) (by decide +kernel) (by decide +kernel) (by decide +kernel) (by decide +kernel) (by decide +kernel) (by decide +kernel) (by rfl) (by rfl) ?_
  refine send_run X0 X1 X2 9 9 10 0 262128 3584 3072 7 rfl rfl (by decide +kernel) (by decide) (by exact dev25 c hc) (by exact (out_of (turn c 0) (off8_eq c hc 0) _ _).trans (src_turn 0 0 c)) (by exact (out_of (turn c 0) (off8_eq c hc 0) _ _).trans (dst_turn 0 0 c)) (by rfl) (by rfl) ?_
  exact ret_run _

theorem part6_run (Kt : (Σ' (v535 : BitVec 32), BitVec 32) → sProp (MT nD τ sig Unit (Elt F) ℕ UU ℕ)) (h0 h1 h2 h3 h4) (v2 v5 v8 v11 v46 v47 v49 v50 : BitVec 32) (hc : k0_cond2 c = 1#1) :
    iprop(St X0 X1 X2 K c 10 0 262128 3072 7 ∗ (∀ r, St X0 X1 X2 K c 12 0 262096 28672 7 -∗ Kt r))
      ⊢ wp frame (wpE (defs₀ (F := F)) 𝒱₀ (c : Thread nD τ) none) Set.univ
          (k0_part6 M0 h0 M1 h1 M2 h2 M3 h3 M4 h4 cc0_scratch1 cc0_scratch2 cc0_scratch3 cc0_scratch4 cc0_scratch5 cc0_scratch6 c v2 v5 v8 v11 v46 v47 v49 v50 hc) Kt := by
  rw [k0_part6_eq_skeleton]
  unfold k0_part6_skel
  simp only [Prog.lift, Prog.bind_op, Prog.bind_ret, Prog.pure_eq_ret]
  refine send_run X0 X1 X2 10 10 11 0 262128 3072 2048 7 rfl rfl (by decide +kernel) (by decide) (by exact dev26 c hc) (by exact (out_of (turn c 0) (off8_eq c hc 0) _ _).trans (src_turn 0 1 c)) (by exact (out_of (turn c 0) (off8_eq c hc 0) _ _).trans (dst_turn 0 1 c)) (by rfl) (by rfl) ?_
  refine send_run X0 X1 X2 11 11 12 0 262128 2048 0 7 rfl rfl (by decide +kernel) (by decide) (by exact dev27 c hc) (by exact (out_of (turn c 0) (off8_eq c hc 0) _ _).trans (src_turn 0 2 c)) (by exact (out_of (turn c 0) (off8_eq c hc 0) _ _).trans (dst_turn 0 2 c)) (by rfl) (by rfl) ?_
  refine fwd_run X0 X1 X2 1 5 12 0 262128 262096 0 4096 12288 28672 7 39 (pass2 c hc).2.1 (by decide +kernel) (by decide +kernel) (by decide +kernel) (by decide +kernel) (by decide +kernel) (by decide +kernel) (by decide +kernel) (by rfl) (by rfl) ?_
  exact ret_run _

theorem part7_run (Kt : (BitVec 32) → sProp (MT nD τ sig Unit (Elt F) ℕ UU ℕ)) (h0 h1 h2 h3 h4) (v2 v8 v48 v49 v50 v535 v536 : BitVec 32) (hc : k0_cond2 c = 1#1) :
    iprop(St X0 X1 X2 K c 12 0 262096 28672 7 ∗ (∀ r, St X0 X1 X2 K c 15 0 262096 0 7 -∗ Kt r))
      ⊢ wp frame (wpE (defs₀ (F := F)) 𝒱₀ (c : Thread nD τ) none) Set.univ
          (k0_part7 M0 h0 M1 h1 M2 h2 M3 h3 M4 h4 cc0_scratch1 cc0_scratch2 cc0_scratch3 cc0_scratch4 cc0_scratch5 cc0_scratch6 c v2 v8 v48 v49 v50 hc v535 v536) Kt := by
  rw [k0_part7_eq_skeleton]
  unfold k0_part7_skel
  simp only [Prog.lift, Prog.bind_op, Prog.bind_ret, Prog.pure_eq_ret]
  refine send_run X0 X1 X2 12 12 13 0 262096 28672 24576 7 rfl rfl (by decide +kernel) (by decide) (by exact dev28 c hc) (by exact (out_of (turn c 1) (off8_eq c hc 1) _ _).trans (src_turn 1 0 c)) (by exact (out_of (turn c 1) (off8_eq c hc 1) _ _).trans (dst_turn 1 0 c)) (by rfl) (by rfl) ?_
  refine send_run X0 X1 X2 13 13 14 0 262096 24576 16384 7 rfl rfl (by decide +kernel) (by decide) (by exact dev29 c hc) (by exact (out_of (turn c 1) (off8_eq c hc 1) _ _).trans (src_turn 1 1 c)) (by exact (out_of (turn c 1) (off8_eq c hc 1) _ _).trans (dst_turn 1 1 c)) (by rfl) (by rfl) ?_
  refine send_run X0 X1 X2 14 14 15 0 262096 16384 0 7 rfl rfl (by decide +kernel) (by decide) (by exact dev30 c hc) (by exact (out_of (turn c 1) (off8_eq c hc 1) _ _).trans (src_turn 1 2 c)) (by exact (out_of (turn c 1) (off8_eq c hc 1) _ _).trans (dst_turn 1 2 c)) (by rfl) (by rfl) ?_
  exact ret_run _

theorem part8_run (Kt : (PUnit) → sProp (MT nD τ sig Unit (Elt F) ℕ UU ℕ)) (h0 h1 h2 h3 h4) (v2 v5 v8 v11 v35 v47 v48 v569 : BitVec 32) (hc : k0_cond2 c = 1#1) :
    iprop(St X0 X1 X2 K c 15 0 262096 0 7 ∗ (∀ r, St X0 X1 X2 K c 16 0 262080 196608 7 -∗ Kt r))
      ⊢ wp frame (wpE (defs₀ (F := F)) 𝒱₀ (c : Thread nD τ) none) Set.univ
          (k0_part8 M0 h0 M1 h1 M2 h2 M3 h3 M4 h4 cc0_scratch1 cc0_scratch2 cc0_scratch3 cc0_scratch4 cc0_scratch5 cc0_scratch6 c v2 v5 v8 v11 v35 v47 v48 hc v569) Kt := by
  rw [k0_part8_eq_skeleton]
  unfold k0_part8_skel
  simp only [Prog.lift, Prog.bind_op, Prog.bind_ret, Prog.pure_eq_ret]
  refine fwd_run X0 X1 X2 2 4 15 0 262096 262080 0 32768 98304 229376 7 23 (pass2 c hc).2.2 (by decide +kernel) (by decide +kernel) (by decide +kernel) (by decide +kernel) (by decide +kernel) (by decide +kernel) (by decide +kernel) (by rfl) (by rfl) ?_
  refine send_run X0 X1 X2 15 15 16 0 262080 229376 196608 7 rfl rfl (by decide +kernel) (by decide) (by exact dev31 c hc) (by exact (out_of (turn c 2) (off8_eq c hc 2) _ _).trans (src_turn 2 0 c)) (by exact (out_of (turn c 2) (off8_eq c hc 2) _ _).trans (dst_turn 2 0 c)) (by rfl) (by rfl) ?_
  exact ret_run _

end Cert.Proof
-- ==== Proof.PartsC.lean ====
/-
  THE PARTS that pass pieces on, at the devices of the last two places of the third axis.
-/
module

public import proofs.«01_k».proof.Proof.Runs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (X0 : Dev nD → S128x512.Idx → Elt F .f32) (X1 : Dev nD → S32x512.Idx → Elt F .f32) (X2 : Dev nD → S1x512.Idx → Elt F .f32)

local notation "𝕄" => MT nD τ sig Unit (Elt F) ℕ UU ℕ

variable {K : GSem nD τ sig → ℕ} {c : Dev nD}

theorem part9_run (Kt : (PUnit) → sProp (MT nD τ sig Unit (Elt F) ℕ UU ℕ)) (h0 h1 h2 h3 h4) (v2 v5 v8 v11 v24 v47 v48 : BitVec 32) (hc : k0_cond3 c = 1#1) :
    iprop(St X0 X1 X2 K c 9 0 262136 0 7 ∗ (∀ r, St X0 X1 X2 K c 10 0 262128 3072 7 -∗ Kt r))
      ⊢ wp frame (wpE (defs₀ (F := F)) 𝒱₀ (c : Thread nD τ) none) Set.univ
          (k0_part9 M0 h0 M1 h1 M2 h2 M3 h3 M4 h4 cc0_scratch1 cc0_scratch2 cc0_scratch3 cc0_scratch4 cc0_scratch5 cc0_scratch6 c v2 v5 v8 v11 v24 v47 v48 hc) Kt := by
  rw [k0_part9_eq_skeleton]
  unfold k0_part9_skel
  simp only [Prog.lift, Prog.bind_op, Prog.bind_ret, Prog.pure_eq_ret]
  refine fwd_run X0 X1 X2 0 3 9 0 262136 262128 0 512 1536 3584 7 15 (pass3 c hc).1 (by decide +kernel) (by decide +kernel) (by decide +kernel) (by decide +kernel) (by decide +kernel) (by decide +kernel) (by decide +kernel) (by rfl) (by rfl) ?_
  refine send_run X0 X1 X2 9 9 10 0 262128 3584 3072 7 rfl rfl (by decide +kernel) (by decide) (by exact dev34 c hc) (by exact (out_of (turn c 0) (off10_eq c hc 0) _ _).trans (src_turn 0 0 c)) (by exact (out_of (turn c 0) (off10_eq c hc 0) _ _).trans (dst_turn 0 0 c)) (by rfl) (by rfl) ?_
  exact ret_run _

theorem part10_run (Kt : (Σ' (v535 : BitVec 32), BitVec 32) → sProp (MT nD τ sig Unit (Elt F) ℕ UU ℕ)) (h0 h1 h2 h3 h4) (v2 v5 v8 v11 v46 v47 v49 v50 : BitVec 32) (hc : k0_cond3 c = 1#1) :
    iprop(St X0 X1 X2 K c 10 0 262128 3072 7 ∗ (∀ r, St X0 X1 X2 K c 12 0 262096 28672 7 -∗ Kt r))
      ⊢ wp frame (wpE (defs₀ (F := F)) 𝒱₀ (c : Thread nD τ) none) Set.univ
          (k0_part10 M0 h0 M1 h1 M2 h2 M3 h3 M4 h4 cc0_scratch1 cc0_scratch2 cc0_scratch3 cc0_scratch4 cc0_scratch5 cc0_scratch6 c v2 v5 v8 v11 v46 v47 v49 v50 hc) Kt := by
  rw [k0_part10_eq_skeleton]
  unfold k0_part10_skel
  simp only [Prog.lift, Prog.bind_op, Prog.bind_ret, Prog.pure_eq_ret]
  refine send_run X0 X1 X2 10 10 11 0 262128 3072 2048 7 rfl rfl (by decide +kernel) (by decide) (by exact dev35 c hc) (by exact (out_of (turn c 0) (off10_eq c hc 0) _ _).trans (src_turn 0 1 c)) (by exact (out_of (turn c 0) (off10_eq c hc 0) _ _).trans (dst_turn 0 1 c)) (by rfl) (by rfl) ?_
  refine send_run X0 X1 X2 11 11 12 0 262128 2048 0 7 rfl rfl (by decide +kernel) (by decide) (by exact dev36 c hc) (by exact (out_of (turn c 0) (off10_eq c hc 0) _ _).trans (src_turn 0 2 c)) (by exact (out_of (turn c 0) (off10_eq c hc 0) _ _).trans (dst_turn 0 2 c)) (by rfl) (by rfl) ?_
  refine fwd_run X0 X1 X2 1 5 12 0 262128 262096 0 4096 12288 28672 7 39 (pass3 c hc).2.1 (by decide +kernel) (by decide +kernel) (by decide +kernel) (by decide +kernel) (by decide +kernel) (by decide +kernel) (by decide +kernel) (by rfl) (by rfl) ?_
  exact ret_run _

theorem part11_run (Kt : (BitVec 32) → sProp (MT nD τ sig Unit (Elt F) ℕ UU ℕ)) (h0 h1 h2 h3 h4) (v2 v8 v48 v49 v50 v535 v536 : BitVec 32) (hc : k0_cond3 c = 1#1) :
    iprop(St X0 X1 X2 K c 12 0 262096 28672 7 ∗ (∀ r, St X0 X1 X2 K c 15 0 262096 0 7 -∗ Kt r))
      ⊢ wp frame (wpE (defs₀ (F := F)) 𝒱₀ (c : Thread nD τ) none) Set.univ
          (k0_part11 M0 h0 M1 h1 M2 h2 M3 h3 M4 h4 cc0_scratch1 cc0_scratch2 cc0_scratch3 cc0_scratch4 cc0_scratch5 cc0_scratch6 c v2 v8 v48 v49 v50 hc v535 v536) Kt := by
  rw [k0_part11_eq_skeleton]
  unfold k0_part11_skel
  simp only [Prog.lift, Prog.bind_op, Prog.bind_ret, Prog.pure_eq_ret]
  refine send_run X0 X1 X2 12 12 13 0 262096 28672 24576 7 rfl rfl (by decide +kernel) (by decide) (by exact dev37 c hc) (by exact (out_of (turn c 1) (off10_eq c hc 1) _ _).trans (src_turn 1 0 c)) (by exact (out_of (turn c 1) (off10_eq c hc 1) _ _).trans (dst_turn 1 0 c)) (by rfl) (by rfl) ?_
  refine send_run X0 X1 X2 13 13 14 0 262096 24576 16384 7 rfl rfl (by decide +kernel) (by decide) (by exact dev38 c hc) (by exact (out_of (turn c 1) (off10_eq c hc 1) _ _).trans (src_turn 1 1 c)) (by exact (out_of (turn c 1) (off10_eq c hc 1) _ _).trans (dst_turn 1 1 c)) (by rfl) (by rfl) ?_
  refine send_run X0 X1 X2 14 14 15 0 262096 16384 0 7 rfl rfl (by decide +kernel) (by decide) (by exact dev39 c hc) (by exact (out_of (turn c 1) (off10_eq c hc 1) _ _).trans (src_turn 1 2 c)) (by exact (out_of (turn c 1) (off10_eq c hc 1) _ _).trans (dst_turn 1 2 c)) (by rfl) (by rfl) ?_
  exact ret_run _

theorem part12_run (Kt : (PUnit) → sProp (MT nD τ sig Unit (Elt F) ℕ UU ℕ)) (h0 h1 h2 h3 h4) (v2 v5 v8 v11 v35 v47 v48 v569 : BitVec 32) (hc : k0_cond3 c = 1#1) :
    iprop(St X0 X1 X2 K c 15 0 262096 0 7 ∗ (∀ r, St X0 X1 X2 K c 16 0 262080 196608 7 -∗ Kt r))
      ⊢ wp frame (wpE (defs₀ (F := F)) 𝒱₀ (c : Thread nD τ) none) Set.univ
          (k0_part12 M0 h0 M1 h1 M2 h2 M3 h3 M4 h4 cc0_scratch1 cc0_scratch2 cc0_scratch3 cc0_scratch4 cc0_scratch5 cc0_scratch6 c v2 v5 v8 v11 v35 v47 v48 hc v569) Kt := by
  rw [k0_part12_eq_skeleton]
  unfold k0_part12_skel
  simp only [Prog.lift, Prog.bind_op, Prog.bind_ret, Prog.pure_eq_ret]
  refine fwd_run X0 X1 X2 2 4 15 0 262096 262080 0 32768 98304 229376 7 23 (pass3 c hc).2.2 (by decide +kernel) (by decide +kernel) (by decide +kernel) (by decide +kernel) (by decide +kernel) (by decide +kernel) (by decide +kernel) (by rfl) (by rfl) ?_
  refine send_run X0 X1 X2 15 15 16 0 262080 229376 196608 7 rfl rfl (by decide +kernel) (by decide) (by exact dev40 c hc) (by exact (out_of (turn c 2) (off10_eq c hc 2) _ _).trans (src_turn 2 0 c)) (by exact (out_of (turn c 2) (off10_eq c hc 2) _ _).trans (dst_turn 2 0 c)) (by rfl) (by rfl) ?_
  exact ret_run _

theorem part13_run (Kt : (PUnit) → sProp (MT nD τ sig Unit (Elt F) ℕ UU ℕ)) (h0 h1 h2 h3 h4) (v2 v5 v8 v11 v24 v47 v48 : BitVec 32) (hc : k0_cond4 c = 1#1) :
    iprop(St X0 X1 X2 K c 9 0 262136 0 7 ∗ (∀ r, St X0 X1 X2 K c 10 0 262128 3072 7 -∗ Kt r))
      ⊢ wp frame (wpE (defs₀ (F := F)) 𝒱₀ (c : Thread nD τ) none) Set.univ
          (k0_part13 M0 h0 M1 h1 M2 h2 M3 h3 M4 h4 cc0_scratch1 cc0_scratch2 cc0_scratch3 cc0_scratch4 cc0_scratch5 cc0_scratch6 c v2 v5 v8 v11 v24 v47 v48 hc) Kt := by
  rw [k0_part13_eq_skeleton]
  unfold k0_part13_skel
  simp only [Prog.lift, Prog.bind_op, Prog.bind_ret, Prog.pure_eq_ret]
  refine fwd_run X0 X1 X2 0 3 9 0 262136 262128 0 512 1536 3584 7 15 (pass4 c hc).1 (by decide +kernel) (by decide +kernel) (by decide +kernel) (by decide +kernel) (by decide +kernel) (by decide +kernel) (by decide +kernel) (by rfl) (by rfl) ?_
  refine send_run X0 X1 X2 9 9 10 0 262128 3584 3072 7 rfl rfl (by decide +kernel) (by decide) (by exact dev43 c hc) (by exact (out_of (turn c 0) (off12_eq c hc 0) _ _).trans (src_turn 0 0 c)) (by exact (out_of (turn c 0) (off12_eq c hc 0) _ _).trans (dst_turn 0 0 c)) (by rfl) (by rfl) ?_
  exact ret_run _

theorem part14_run (Kt : (Σ' (v535 : BitVec 32), BitVec 32) → sProp (MT nD τ sig Unit (Elt F) ℕ UU ℕ)) (h0 h1 h2 h3 h4) (v2 v5 v8 v11 v35 v47 v49 v50 : BitVec 32) (hc : k0_cond4 c = 1#1) :
    iprop(St X0 X1 X2 K c 10 0 262128 3072 7 ∗ (∀ r, St X0 X1 X2 K c 12 0 262112 28672 7 -∗ Kt r))
      ⊢ wp frame (wpE (defs₀ (F := F)) 𝒱₀ (c : Thread nD τ) none) Set.univ
          (k0_part14 M0 h0 M1 h1 M2 h2 M3 h3 M4 h4 cc0_scratch1 cc0_scratch2 cc0_scratch3 cc0_scratch4 cc0_scratch5 cc0_scratch6 c v2 v5 v8 v11 v35 v47 v49 v50 hc) Kt := by
  rw [k0_part14_eq_skeleton]
  unfold k0_part14_skel
  simp only [Prog.lift, Prog.bind_op, Prog.bind_ret, Prog.pure_eq_ret]
  refine send_run X0 X1 X2 10 10 11 0 262128 3072 2048 7 rfl rfl (by decide +kernel) (by decide) (by exact dev44 c hc) (by exact (out_of (turn c 0) (off12_eq c hc 0) _ _).trans (src_turn 0 1 c)) (by exact (out_of (turn c 0) (off12_eq c hc 0) _ _).trans (dst_turn 0 1 c)) (by rfl) (by rfl) ?_
  refine send_run X0 X1 X2 11 11 12 0 262128 2048 0 7 rfl rfl (by decide +kernel) (by decide) (by exact dev45 c hc) (by exact (out_of (turn c 0) (off12_eq c hc 0) _ _).trans (src_turn 0 2 c)) (by exact (out_of (turn c 0) (off12_eq c hc 0) _ _).trans (dst_turn 0 2 c)) (by rfl) (by rfl) ?_
  refine fwd_run X0 X1 X2 1 4 12 0 262128 262112 0 4096 12288 28672 7 23 (pass4 c hc).2.1 (by decide +kernel) (by decide +kernel) (by decide +kernel) (by decide +kernel) (by decide +kernel) (by decide +kernel) (by decide +kernel) (by rfl) (by rfl) ?_
  exact ret_run _

theorem part15_run (Kt : (BitVec 32) → sProp (MT nD τ sig Unit (Elt F) ℕ UU ℕ)) (h0 h1 h2 h3 h4) (v2 v8 v48 v49 v50 v535 v536 : BitVec 32) (hc : k0_cond4 c = 1#1) :
    iprop(St X0 X1 X2 K c 12 0 262112 28672 7 ∗ (∀ r, St X0 X1 X2 K c 15 0 262112 0 7 -∗ Kt r))
      ⊢ wp frame (wpE (defs₀ (F := F)) 𝒱₀ (c : Thread nD τ) none) Set.univ
          (k0_part15 M0 h0 M1 h1 M2 h2 M3 h3 M4 h4 cc0_scratch1 cc0_scratch2 cc0_scratch3 cc0_scratch4 cc0_scratch5 cc0_scratch6 c v2 v8 v48 v49 v50 hc v535 v536) Kt := by
  rw [k0_part15_eq_skeleton]
  unfold k0_part15_skel
  simp only [Prog.lift, Prog.bind_op, Prog.bind_ret, Prog.pure_eq_ret]
  refine send_run X0 X1 X2 12 12 13 0 262112 28672 24576 7 rfl rfl (by decide +kernel) (by decide) (by exact dev46 c hc) (by exact (out_of (turn c 1) (off12_eq c hc 1) _ _).trans (src_turn 1 0 c)) (by exact (out_of (turn c 1) (off12_eq c hc 1) _ _).trans (dst_turn 1 0 c)) (by rfl) (by rfl) ?_
  refine send_run X0 X1 X2 13 13 14 0 262112 24576 16384 7 rfl rfl (by decide +kernel) (by decide) (by exact dev47 c hc) (by exact (out_of (turn c 1) (off12_eq c hc 1) _ _).trans (src_turn 1 1 c)) (by exact (out_of (turn c 1) (off12_eq c hc 1) _ _).trans (dst_turn 1 1 c)) (by rfl) (by rfl) ?_
  refine send_run X0 X1 X2 14 14 15 0 262112 16384 0 7 rfl rfl (by decide +kernel) (by decide) (by exact dev48 c hc) (by exact (out_of (turn c 1) (off12_eq c hc 1) _ _).trans (src_turn 1 2 c)) (by exact (out_of (turn c 1) (off12_eq c hc 1) _ _).trans (dst_turn 1 2 c)) (by rfl) (by rfl) ?_
  exact ret_run _

theorem part16_run (Kt : (PUnit) → sProp (MT nD τ sig Unit (Elt F) ℕ UU ℕ)) (h0 h1 h2 h3 h4) (v2 v5 v8 v11 v46 v47 v48 v569 : BitVec 32) (hc : k0_cond4 c = 1#1) :
    iprop(St X0 X1 X2 K c 15 0 262112 0 7 ∗ (∀ r, St X0 X1 X2 K c 16 0 262080 196608 7 -∗ Kt r))
      ⊢ wp frame (wpE (defs₀ (F := F)) 𝒱₀ (c : Thread nD τ) none) Set.univ
          (k0_part16 M0 h0 M1 h1 M2 h2 M3 h3 M4 h4 cc0_scratch1 cc0_scratch2 cc0_scratch3 cc0_scratch4 cc0_scratch5 cc0_scratch6 c v2 v5 v8 v11 v46 v47 v48 hc v569) Kt := by
  rw [k0_part16_eq_skeleton]
  unfold k0_part16_skel
  simp only [Prog.lift, Prog.bind_op, Prog.bind_ret, Prog.pure_eq_ret]
  refine fwd_run X0 X1 X2 2 5 15 0 262112 262080 0 32768 98304 229376 7 39 (pass4 c hc).2.2 (by decide +kernel) (by decide +kernel) (by decide +kernel) (by decide +kernel) (by decide +kernel) (by decide +kernel) (by decide +kernel) (by rfl) (by rfl) ?_
  refine send_run X0 X1 X2 15 15 16 0 262080 229376 196608 7 rfl rfl (by decide +kernel) (by decide) (by exact dev49 c hc) (by exact (out_of (turn c 2) (off12_eq c hc 2) _ _).trans (src_turn 2 0 c)) (by exact (out_of (turn c 2) (off12_eq c hc 2) _ _).trans (dst_turn 2 0 c)) (by rfl) (by rfl) ?_
  exact ret_run _

end Cert.Proof
-- ==== Proof.Cases.lean ====
/-
  THE PIECES PASSED ON, at every device: each runs the parts of its own place on the third axis.
-/
module

public import proofs.«01_k».proof.Proof.PartsA
public import proofs.«01_k».proof.Proof.PartsB
public import proofs.«01_k».proof.Proof.PartsC

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (X0 : Dev nD → S128x512.Idx → Elt F .f32) (X1 : Dev nD → S32x512.Idx → Elt F .f32) (X2 : Dev nD → S1x512.Idx → Elt F .f32)

local notation "𝕄" => MT nD τ sig Unit (Elt F) ℕ UU ℕ

variable {α : Type} {Q : α → sProp (MT nD τ sig Unit (Elt F) ℕ UU ℕ)} {K : GSem nD τ sig → ℕ} {c : Dev nD}
variable {P : sProp (MT nD τ sig Unit (Elt F) ℕ UU ℕ)}

/-- A part and what follows it. -/
theorem bind_run {β : Type} {p : Prog (TpuEff nD τ sig (Elt F) Λ₀ .tc) β} {k : β → Prog (TpuEff nD τ sig (Elt F) Λ₀ .tc) α}
    {T T' : sProp (MT nD τ sig Unit (Elt F) ℕ UU ℕ)}
    (h : ∀ Kt : β → sProp (MT nD τ sig Unit (Elt F) ℕ UU ℕ), iprop(T ∗ (∀ r, T' -∗ Kt r)) ⊢ wp frame (wpE (defs₀ (F := F)) 𝒱₀ (c : Thread nD τ) none) Set.univ p Kt)
    (hk : ∀ r, iprop(T' ∗ P) ⊢ wp frame (wpE (defs₀ (F := F)) 𝒱₀ (c : Thread nD τ) none) Set.univ (k r) Q) : iprop(T ∗ P) ⊢ wp frame (wpE (defs₀ (F := F)) 𝒱₀ (c : Thread nD τ) none) Set.univ (p >>= k) Q := by
  rw [wp_bind]
  refine BIBase.Entails.trans ?_ (h (fun r => wp frame (wpE (defs₀ (F := F)) 𝒱₀ (c : Thread nD τ) none) Set.univ (k r) Q))
  iintro ⟨H, Hp⟩
  isplitl [H]; · iexact H
  iintro %r H
  iapply (hk r)
  isplitl [H]; · iexact H
  iexact Hp

theorem only1 : ∀ c : Dev nD, k0_cond1 c = 1#1 → k0_cond2 c ≠ 1#1 ∧ k0_cond3 c ≠ 1#1 ∧ k0_cond4 c ≠ 1#1 := by decide +kernel

theorem part25_run1 (Kt : PUnit → sProp (MT nD τ sig Unit (Elt F) ℕ UU ℕ)) (h0 h1 h2 h3 h4) (v2 v5 v8 v11 v24 v35 v46 v47 v48 v49 v50 v258 v259 : BitVec 32) (hc : k0_cond1 c = 1#1) :
    iprop(St X0 X1 X2 K c 8 0 262136 256 7 ∗ (∀ r, St X0 X1 X2 K c 18 0 262080 0 7 -∗ Kt r))
      ⊢ wp frame (wpE (defs₀ (F := F)) 𝒱₀ (c : Thread nD τ) none) Set.univ
          (k0_part25 M0 h0 M1 h1 M2 h2 M3 h3 M4 h4 cc0_scratch1 cc0_scratch2 cc0_scratch3 cc0_scratch4 cc0_scratch5 cc0_scratch6 c v2 v5 v8 v11 v24 v35 v46 v47 v48 v49 v50 v258 v259) Kt := by
  rw [k0_part25_eq_skeleton]
  unfold k0_part25_skel
  simp only [dif_pos hc, dif_neg (only1 c hc).1, dif_neg (only1 c hc).2.1, dif_neg (only1 c hc).2.2, Prog.lift, Prog.bind_op, Prog.bind_ret, Prog.pure_eq_ret]
  refine send_run X0 X1 X2 8 8 9 0 262136 256 0 7 rfl rfl (by decide +kernel) (by decide) (by exact dev15 c) (by exact (out_of c (off4_eq c) _ _).trans (src_own 8 (by decide) (by decide) c)) (by exact (out_of c (off4_eq c) _ _).trans (dst_own 8 (by decide) (by decide) c)) (by rfl) (by rfl) ?_
  refine bind_run (fun Kt => part1_run X0 X1 X2 Kt _ _ _ _ _ _ _ _ _ _ _ _ hc) fun _ => ?_
  refine bind_run (fun Kt => part2_run X0 X1 X2 Kt _ _ _ _ _ _ _ _ _ _ _ _ _ hc) fun _ => ?_
  refine bind_run (fun Kt => part3_run X0 X1 X2 Kt _ _ _ _ _ _ _ _ _ _ _ _ hc) fun _ => ?_
  refine bind_run (fun Kt => part4_run X0 X1 X2 Kt _ _ _ _ _ _ _ _ _ _ _ _ _ hc) fun _ => ?_
  refine send_run X0 X1 X2 16 16 17 0 262080 196608 131072 7 rfl rfl (by decide +kernel) (by decide) (by exact dev23 c hc) (by exact (out_of (turn c 2) (off6_eq c hc 2) _ _).trans (src_turn 2 1 c)) (by exact (out_of (turn c 2) (off6_eq c hc 2) _ _).trans (dst_turn 2 1 c)) (by rfl) (by rfl) ?_
  refine send_run X0 X1 X2 17 17 18 0 262080 131072 0 7 rfl rfl (by decide +kernel) (by decide) (by exact dev24 c hc) (by exact (out_of (turn c 2) (off6_eq c hc 2) _ _).trans (src_turn 2 2 c)) (by exact (out_of (turn c 2) (off6_eq c hc 2) _ _).trans (dst_turn 2 2 c)) (by rfl) (by rfl) ?_
  exact ret_run _

theorem only2 : ∀ c : Dev nD, k0_cond2 c = 1#1 → k0_cond1 c ≠ 1#1 ∧ k0_cond3 c ≠ 1#1 ∧ k0_cond4 c ≠ 1#1 := by decide +kernel

theorem part25_run2 (Kt : PUnit → sProp (MT nD τ sig Unit (Elt F) ℕ UU ℕ)) (h0 h1 h2 h3 h4) (v2 v5 v8 v11 v24 v35 v46 v47 v48 v49 v50 v258 v259 : BitVec 32) (hc : k0_cond2 c = 1#1) :
    iprop(St X0 X1 X2 K c 8 0 262136 256 7 ∗ (∀ r, St X0 X1 X2 K c 18 0 262080 0 7 -∗ Kt r))
      ⊢ wp frame (wpE (defs₀ (F := F)) 𝒱₀ (c : Thread nD τ) none) Set.univ
          (k0_part25 M0 h0 M1 h1 M2 h2 M3 h3 M4 h4 cc0_scratch1 cc0_scratch2 cc0_scratch3 cc0_scratch4 cc0_scratch5 cc0_scratch6 c v2 v5 v8 v11 v24 v35 v46 v47 v48 v49 v50 v258 v259) Kt := by
  rw [k0_part25_eq_skeleton]
  unfold k0_part25_skel
  simp only [dif_neg (only2 c hc).1, dif_pos hc, dif_neg (only2 c hc).2.1, dif_neg (only2 c hc).2.2, Prog.lift, Prog.bind_op, Prog.bind_ret, Prog.pure_eq_ret]
  refine send_run X0 X1 X2 8 8 9 0 262136 256 0 7 rfl rfl (by decide +kernel) (by decide) (by exact dev15 c) (by exact (out_of c (off4_eq c) _ _).trans (src_own 8 (by decide) (by decide) c)) (by exact (out_of c (off4_eq c) _ _).trans (dst_own 8 (by decide) (by decide) c)) (by rfl) (by rfl) ?_
  refine bind_run (fun Kt => part5_run X0 X1 X2 Kt _ _ _ _ _ _ _ _ _ _ _ _ hc) fun _ => ?_
  refine bind_run (fun Kt => part6_run X0 X1 X2 Kt _ _ _ _ _ _ _ _ _ _ _ _ _ hc) fun _ => ?_
  refine bind_run (fun Kt => part7_run X0 X1 X2 Kt _ _ _ _ _ _ _ _ _ _ _ _ hc) fun _ => ?_
  refine bind_run (fun Kt => part8_run X0 X1 X2 Kt _ _ _ _ _ _ _ _ _ _ _ _ _ hc) fun _ => ?_
  refine send_run X0 X1 X2 16 16 17 0 262080 196608 131072 7 rfl rfl (by decide +kernel) (by decide) (by exact dev32 c hc) (by exact (out_of (turn c 2) (off8_eq c hc 2) _ _).trans (src_turn 2 1 c)) (by exact (out_of (turn c 2) (off8_eq c hc 2) _ _).trans (dst_turn 2 1 c)) (by rfl) (by rfl) ?_
  refine send_run X0 X1 X2 17 17 18 0 262080 131072 0 7 rfl rfl (by decide +kernel) (by decide) (by exact dev33 c hc) (by exact (out_of (turn c 2) (off8_eq c hc 2) _ _).trans (src_turn 2 2 c)) (by exact (out_of (turn c 2) (off8_eq c hc 2) _ _).trans (dst_turn 2 2 c)) (by rfl) (by rfl) ?_
  exact ret_run _

theorem only3 : ∀ c : Dev nD, k0_cond3 c = 1#1 → k0_cond1 c ≠ 1#1 ∧ k0_cond2 c ≠ 1#1 ∧ k0_cond4 c ≠ 1#1 := by decide +kernel

theorem part25_run3 (Kt : PUnit → sProp (MT nD τ sig Unit (Elt F) ℕ UU ℕ)) (h0 h1 h2 h3 h4) (v2 v5 v8 v11 v24 v35 v46 v47 v48 v49 v50 v258 v259 : BitVec 32) (hc : k0_cond3 c = 1#1) :
    iprop(St X0 X1 X2 K c 8 0 262136 256 7 ∗ (∀ r, St X0 X1 X2 K c 18 0 262080 0 7 -∗ Kt r))
      ⊢ wp frame (wpE (defs₀ (F := F)) 𝒱₀ (c : Thread nD τ) none) Set.univ
          (k0_part25 M0 h0 M1 h1 M2 h2 M3 h3 M4 h4 cc0_scratch1 cc0_scratch2 cc0_scratch3 cc0_scratch4 cc0_scratch5 cc0_scratch6 c v2 v5 v8 v11 v24 v35 v46 v47 v48 v49 v50 v258 v259) Kt := by
  rw [k0_part25_eq_skeleton]
  unfold k0_part25_skel
  simp only [dif_neg (only3 c hc).1, dif_neg (only3 c hc).2.1, dif_pos hc, dif_neg (only3 c hc).2.2, Prog.lift, Prog.bind_op, Prog.bind_ret, Prog.pure_eq_ret]
  refine send_run X0 X1 X2 8 8 9 0 262136 256 0 7 rfl rfl (by decide +kernel) (by decide) (by exact dev15 c) (by exact (out_of c (off4_eq c) _ _).trans (src_own 8 (by decide) (by decide) c)) (by exact (out_of c (off4_eq c) _ _).trans (dst_own 8 (by decide) (by decide) c)) (by rfl) (by rfl) ?_
  refine bind_run (fun Kt => part9_run X0 X1 X2 Kt _ _ _ _ _ _ _ _ _ _ _ _ hc) fun _ => ?_
  refine bind_run (fun Kt => part10_run X0 X1 X2 Kt _ _ _ _ _ _ _ _ _ _ _ _ _ hc) fun _ => ?_
  refine bind_run (fun Kt => part11_run X0 X1 X2 Kt _ _ _ _ _ _ _ _ _ _ _ _ hc) fun _ => ?_
  refine bind_run (fun Kt => part12_run X0 X1 X2 Kt _ _ _ _ _ _ _ _ _ _ _ _ _ hc) fun _ => ?_
  refine send_run X0 X1 X2 16 16 17 0 262080 196608 131072 7 rfl rfl (by decide +kernel) (by decide) (by exact dev41 c hc) (by exact (out_of (turn c 2) (off10_eq c hc 2) _ _).trans (src_turn 2 1 c)) (by exact (out_of (turn c 2) (off10_eq c hc 2) _ _).trans (dst_turn 2 1 c)) (by rfl) (by rfl) ?_
  refine send_run X0 X1 X2 17 17 18 0 262080 131072 0 7 rfl rfl (by decide +kernel) (by decide) (by exact dev42 c hc) (by exact (out_of (turn c 2) (off10_eq c hc 2) _ _).trans (src_turn 2 2 c)) (by exact (out_of (turn c 2) (off10_eq c hc 2) _ _).trans (dst_turn 2 2 c)) (by rfl) (by rfl) ?_
  exact ret_run _

theorem only4 : ∀ c : Dev nD, k0_cond4 c = 1#1 → k0_cond1 c ≠ 1#1 ∧ k0_cond2 c ≠ 1#1 ∧ k0_cond3 c ≠ 1#1 := by decide +kernel

theorem part25_run4 (Kt : PUnit → sProp (MT nD τ sig Unit (Elt F) ℕ UU ℕ)) (h0 h1 h2 h3 h4) (v2 v5 v8 v11 v24 v35 v46 v47 v48 v49 v50 v258 v259 : BitVec 32) (hc : k0_cond4 c = 1#1) :
    iprop(St X0 X1 X2 K c 8 0 262136 256 7 ∗ (∀ r, St X0 X1 X2 K c 18 0 262080 0 7 -∗ Kt r))
      ⊢ wp frame (wpE (defs₀ (F := F)) 𝒱₀ (c : Thread nD τ) none) Set.univ
          (k0_part25 M0 h0 M1 h1 M2 h2 M3 h3 M4 h4 cc0_scratch1 cc0_scratch2 cc0_scratch3 cc0_scratch4 cc0_scratch5 cc0_scratch6 c v2 v5 v8 v11 v24 v35 v46 v47 v48 v49 v50 v258 v259) Kt := by
  rw [k0_part25_eq_skeleton]
  unfold k0_part25_skel
  simp only [dif_neg (only4 c hc).1, dif_neg (only4 c hc).2.1, dif_neg (only4 c hc).2.2, dif_pos hc, Prog.lift, Prog.bind_op, Prog.bind_ret, Prog.pure_eq_ret]
  refine send_run X0 X1 X2 8 8 9 0 262136 256 0 7 rfl rfl (by decide +kernel) (by decide) (by exact dev15 c) (by exact (out_of c (off4_eq c) _ _).trans (src_own 8 (by decide) (by decide) c)) (by exact (out_of c (off4_eq c) _ _).trans (dst_own 8 (by decide) (by decide) c)) (by rfl) (by rfl) ?_
  refine bind_run (fun Kt => part13_run X0 X1 X2 Kt _ _ _ _ _ _ _ _ _ _ _ _ hc) fun _ => ?_
  refine bind_run (fun Kt => part14_run X0 X1 X2 Kt _ _ _ _ _ _ _ _ _ _ _ _ _ hc) fun _ => ?_
  refine bind_run (fun Kt => part15_run X0 X1 X2 Kt _ _ _ _ _ _ _ _ _ _ _ _ hc) fun _ => ?_
  refine bind_run (fun Kt => part16_run X0 X1 X2 Kt _ _ _ _ _ _ _ _ _ _ _ _ _ hc) fun _ => ?_
  refine send_run X0 X1 X2 16 16 17 0 262080 196608 131072 7 rfl rfl (by decide +kernel) (by decide) (by exact dev50 c hc) (by exact (out_of (turn c 2) (off12_eq c hc 2) _ _).trans (src_turn 2 1 c)) (by exact (out_of (turn c 2) (off12_eq c hc 2) _ _).trans (dst_turn 2 1 c)) (by rfl) (by rfl) ?_
  refine send_run X0 X1 X2 17 17 18 0 262080 131072 0 7 rfl rfl (by decide +kernel) (by decide) (by exact dev51 c hc) (by exact (out_of (turn c 2) (off12_eq c hc 2) _ _).trans (src_turn 2 2 c)) (by exact (out_of (turn c 2) (off12_eq c hc 2) _ _).trans (dst_turn 2 2 c)) (by rfl) (by rfl) ?_
  exact ret_run _

theorem some_cond : ∀ c : Dev nD, k0_cond1 c = 1#1 ∨ k0_cond2 c = 1#1 ∨ k0_cond3 c = 1#1 ∨ k0_cond4 c = 1#1 := by decide +kernel

/-- The last transfer of the own piece, and the pieces passed on, at any device. -/
theorem part25_run (Kt : PUnit → sProp (MT nD τ sig Unit (Elt F) ℕ UU ℕ)) (h0 h1 h2 h3 h4) (v2 v5 v8 v11 v24 v35 v46 v47 v48 v49 v50 v258 v259 : BitVec 32) :
    iprop(St X0 X1 X2 K c 8 0 262136 256 7 ∗ (∀ r, St X0 X1 X2 K c 18 0 262080 0 7 -∗ Kt r))
      ⊢ wp frame (wpE (defs₀ (F := F)) 𝒱₀ (c : Thread nD τ) none) Set.univ
          (k0_part25 M0 h0 M1 h1 M2 h2 M3 h3 M4 h4 cc0_scratch1 cc0_scratch2 cc0_scratch3 cc0_scratch4 cc0_scratch5 cc0_scratch6 c v2 v5 v8 v11 v24 v35 v46 v47 v48 v49 v50 v258 v259) Kt := by
  rcases some_cond c with hc | hc | hc | hc
  · exact part25_run1 X0 X1 X2 Kt h0 h1 h2 h3 h4 v2 v5 v8 v11 v24 v35 v46 v47 v48 v49 v50 v258 v259 hc
  · exact part25_run2 X0 X1 X2 Kt h0 h1 h2 h3 h4 v2 v5 v8 v11 v24 v35 v46 v47 v48 v49 v50 v258 v259 hc
  · exact part25_run3 X0 X1 X2 Kt h0 h1 h2 h3 h4 v2 v5 v8 v11 v24 v35 v46 v47 v48 v49 v50 v258 v259 hc
  · exact part25_run4 X0 X1 X2 Kt h0 h1 h2 h3 h4 v2 v5 v8 v11 v24 v35 v46 v47 v48 v49 v50 v258 v259 hc

end Cert.Proof
-- ==== Proof.Compute.lean ====
/-
  THE PIECE a device finishes: its own block of the partial, the three that came and its block of the residual are read,
  and the finished piece is written to its place in the result, where six transfers then read it.
-/
module

public import proofs.«01_k».proof.Proof.Runs
public import Idealize.ShloMosaic.Lib.Pipeline.Value

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (X0 : Dev nD → S128x512.Idx → Elt F .f32) (X1 : Dev nD → S32x512.Idx → Elt F .f32) (X2 : Dev nD → S1x512.Idx → Elt F .f32)

local notation "𝕄" => MT nD τ sig Unit (Elt F) ℕ UU ℕ

variable {α : Type} {Q : α → sProp (MT nD τ sig Unit (Elt F) ℕ UU ℕ)} {K : GSem nD τ sig → ℕ} {c : Dev nD}

/-- A slice is read. -/
theorem load_step {s : Shape} (m : Memref sig .tc .vmem s .f32) (r : Rect s) (hr : ∀ a, r.stride a = 1) {q : PosShare TreeShare}
    {X : r.shape.Idx → Elt F .f32} {hl : m.view.LoadsAt r.toLoadRect}
    {k : (r.shape.Idx → Elt F .f32) → Prog (TpuEff nD τ sig (Elt F) Λ₀ .tc) α} :
    (owns (c : Thread nD τ) (m.slice r hr) q X : sProp 𝕄)
      ⊢ iprop((owns (c : Thread nD τ) (m.slice r hr) q X -∗ wp frame (wpE (defs₀ (F := F)) 𝒱₀ (c : Thread nD τ) none) Set.univ (k X) Q) -∗ wp frame (wpE (defs₀ (F := F)) 𝒱₀ (c : Thread nD τ) none) Set.univ (.op (.load m r.toLoadRect hl) k) Q) := by
  unfold owns
  iintro ⟨%f, %hf, H⟩ Hk
  iapply (wp_load_rect 𝒱₀ (c : Thread nD τ) none Set.univ (m := m) (r := r) (S := (m.access r).set) (Finset.Subset.refl _)) $$ H
  iintro H
  have e : (m.access r).read (Elt F) f = X := hf
  rw [e]
  iapply Hk
  iexists f
  isplitr; · ipureintro; exact hf
  iexact H

/-- A slice is written. -/
theorem store_step {s : Shape} (m : Memref sig .tc .vmem s .f32) (r : Rect s) (hr : ∀ a, r.stride a = 1)
    {X Y : r.shape.Idx → Elt F .f32} {hx : (m.access r).Stores Finset.univ} {hm : (Finset.univ : Finset r.shape.Idx) = Finset.univ ∨ ∀ a, r.stride a = 1}
    {k : PUnit → Prog (TpuEff nD τ sig (Elt F) Λ₀ .tc) α} :
    (owns (c : Thread nD τ) (m.slice r hr) fullShare X : sProp 𝕄)
      ⊢ iprop((owns (c : Thread nD τ) (m.slice r hr) fullShare Y -∗ wp frame (wpE (defs₀ (F := F)) 𝒱₀ (c : Thread nD τ) none) Set.univ (k ⟨⟩) Q) -∗ wp frame (wpE (defs₀ (F := F)) 𝒱₀ (c : Thread nD τ) none) Set.univ (.op (.store m r Y Finset.univ hx hm) k) Q) := by
  unfold owns
  iintro ⟨%f, %hf, H⟩ Hk
  iapply (wp_store 𝒱₀ (c : Thread nD τ) none Set.univ (m := m) (r := r) (S := (m.access r).set) (View.setOn_subset_set _ _)) $$ H
  iintro H
  iapply Hk
  iexists (m.access r).write (Elt F) f Y Finset.univ
  isplitr; · ipureintro; exact View.read_write_univ _ _
  iexact H

omit [FloatOps F] in
/-- A squeezed memref owned is the memref owned, at the same contents in its own shape. -/
theorem owns_squeeze (d : Dev nD) {s s' : Shape} (m : Memref sig .tc .vmem s .f32) (h : s.Squeezes s') (h1 : s'.ShapeCasts s) (q : PosShare TreeShare)
    (X : s'.Idx → Elt F .f32) :
    (owns (d : Thread nD τ) (m.squeeze s' h) q X : sProp 𝕄) = owns (d : Thread nD τ) m q (shapeCast s X h1) := by
  have hr : ∀ f, (m.squeeze s' h).view.read (Elt F) f = shapeCast s' (m.view.read (Elt F) f) h.numel_eq := fun f => rfl
  have hs : (m.squeeze s' h).view.set = m.view.set := View.set_reshape _ _
  have e : ∀ f, (m.squeeze s' h).view.read (Elt F) f = X ↔ m.view.read (Elt F) f = shapeCast s X h1 := fun f => by
    rw [hr]; constructor
    · intro e; rw [← e, shapeCast_shapeCast]
    · intro e; rw [e, shapeCast_shapeCast]
  unfold owns
  simp only [e, hs]

/-! ### The finished piece -/

/-- What the device reads of its own inputs. -/
def Inputs (c : Dev nD) : sProp 𝕄 :=
  iprop(owns (c : Thread nD τ) (rowsM (ownRows c)) fullShare (rowsVal X0 (ownRows c) c) ∗ owns (c : Thread nD τ) M1 fullShare (X1 c)
    ∗ owns (c : Thread nD τ) M2 fullShare (X2 c))

/-- The transfers of the finished piece, by what they read. -/
theorem own_lents (c : Dev nD) : (owns (c : Thread nD τ) (outM c) fullShare (pieceVal X0 X1 X2 c) : sProp 𝕄)
    ⊣⊢ iprop(lent X0 X1 X2 3 c ∗ lent X0 X1 X2 4 c ∗ lent X0 X1 X2 5 c ∗ lent X0 X1 X2 6 c ∗ lent X0 X1 X2 7 c ∗ lent X0 X1 X2 8 c) := by
  have e3 : (lent X0 X1 X2 3 c : sProp 𝕄) = owns (c : Thread nD τ) (outM c) fullShare.left.left (pieceVal X0 X1 X2 c) := rfl
  have e4 : (lent X0 X1 X2 4 c : sProp 𝕄) = owns (c : Thread nD τ) (outM c) fullShare.left.right.left (pieceVal X0 X1 X2 c) := rfl
  have e5 : (lent X0 X1 X2 5 c : sProp 𝕄) = owns (c : Thread nD τ) (outM c) fullShare.left.right.right (pieceVal X0 X1 X2 c) := rfl
  have e6 : (lent X0 X1 X2 6 c : sProp 𝕄) = owns (c : Thread nD τ) (outM c) fullShare.right.left (pieceVal X0 X1 X2 c) := rfl
  have e7 : (lent X0 X1 X2 7 c : sProp 𝕄) = owns (c : Thread nD τ) (outM c) fullShare.right.right.left (pieceVal X0 X1 X2 c) := rfl
  have e8 : (lent X0 X1 X2 8 c : sProp 𝕄) = owns (c : Thread nD τ) (outM c) fullShare.right.right.right (pieceVal X0 X1 X2 c) := rfl
  rw [e3, e4, e5, e6, e7, e8]
  constructor
  · iintro H
    ihave H := (owns_halves (c : Thread nD τ) (outM c) fullShare _).1 $$ H
    icases H with ⟨Ha, Hb⟩
    ihave Ha := (owns_thirds c (outM c) fullShare.left _).1 $$ Ha
    ihave Hb := (owns_thirds c (outM c) fullShare.right _).1 $$ Hb
    icases Ha with ⟨H3, H4, H5⟩
    icases Hb with ⟨H6, H7, H8⟩
    isplitl [H3]; · iexact H3
    isplitl [H4]; · iexact H4
    isplitl [H5]; · iexact H5
    isplitl [H6]; · iexact H6
    isplitl [H7]; · iexact H7
    iexact H8
  · iintro ⟨H3, H4, H5, H6, H7, H8⟩
    iapply (owns_halves (c : Thread nD τ) (outM c) fullShare _).2
    isplitl [H3 H4 H5]
    · iapply (owns_thirds c (outM c) fullShare.left _).2
      isplitl [H3]; · iexact H3
      isplitl [H4]; · iexact H4
      iexact H5
    · iapply (owns_thirds c (outM c) fullShare.right _).2
      isplitl [H6]; · iexact H6
      isplitl [H7]; · iexact H7
      iexact H8

/-- The state with the first arrivals and the transfers' sources set apart. -/
theorem St_open (n w R : ℕ) (c : Dev nD) : (St X0 X1 X2 K c n w R 0 7 : sProp 𝕄)
    ⊢ iprop((arrived X0 X1 X2 0 c ∗ arrived X0 X1 X2 1 c ∗ arrived X0 X1 X2 2 c)
        ∗ ((arrived X0 X1 X2 0 c ∗ arrived X0 X1 X2 1 c ∗ arrived X0 X1 X2 2 c)
          -∗ (lent X0 X1 X2 3 c ∗ lent X0 X1 X2 4 c ∗ lent X0 X1 X2 5 c ∗ lent X0 X1 X2 6 c ∗ lent X0 X1 X2 7 c ∗ lent X0 X1 X2 8 c)
          -∗ St X0 X1 X2 K c n w R 504 7)) := by
  have a0 : Adds 0 6 7 := by decide +kernel
  have a1 : Adds 1 4 6 := by decide +kernel
  have a2 : Adds 2 0 4 := by decide +kernel
  have l3 : Adds 3 496 504 := by decide +kernel
  have l4 : Adds 4 480 496 := by decide +kernel
  have l5 : Adds 5 448 480 := by decide +kernel
  have l6 : Adds 6 384 448 := by decide +kernel
  have l7 : Adds 7 256 384 := by decide +kernel
  have l8 : Adds 8 0 256 := by decide +kernel
  unfold St
  rw [a0.1, big_insert a0.2, a1.1, big_insert a1.2, a2.1, big_insert a2.2, l3.1, big_insert l3.2, l4.1, big_insert l4.2, l5.1, big_insert l5.2,
    l6.1, big_insert l6.2, l7.1, big_insert l7.2, l8.1, big_insert l8.2]
  iintro ⟨H0, H1, H2, H3, H4, H5, H6, H7, H8, Ha, Hb, Hc, H9⟩
  isplitl [Ha Hb Hc]
  · isplitl [Ha]; · iexact Ha
    isplitl [Hb]; · iexact Hb
    iexact Hc
  iintro ⟨Ha, Hb, Hc⟩ ⟨L3, L4, L5, L6, L7, L8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8 L3 L4 L5 L6 L7 L8]
  · isplitl [L3]; · iexact L3
    isplitl [L4]; · iexact L4
    isplitl [L5]; · iexact L5
    isplitl [L6]; · iexact L6
    isplitl [L7]; · iexact L7
    isplitl [L8]; · iexact L8
    iexact H8
  isplitl [Ha]; · iexact Ha
  isplitl [Hb]; · iexact Hb
  isplitl [Hc]; · iexact Hc
  iexact H9

theorem arrived_slot (i : Fin 3) (c : Dev nD) : (arrived X0 X1 X2 ⟨i.val, by omega⟩ c : sProp 𝕄)
    = owns (c : Thread nD τ) (M4.slice (slotR i) (fun _ => rfl)) fullShare (expand (rowsVal X0 (rowsOf i (frm ⟨i.val, by omega⟩ c)) (frm ⟨i.val, by omega⟩ c))) := by
  rw [← owns_squeeze c _ squeezes_S1x32x512_S32x512]
  unfold arrived dstM val
  rw [dif_pos (show (⟨i.val, by omega⟩ : Fin 18).val < 3 from i.isLt), dif_pos (show (⟨i.val, by omega⟩ : Fin 18).val < 3 from i.isLt)]

theorem ownRows_at (c : Dev nD) : (M0.slice (Rect.unit (s := S128x512) (k0_off2 c) S32x512.size (k0_off2_inb c)) (fun _ => rfl)
    : Memref sig .tc .vmem S32x512 .f32) = rowsM (ownRows c) := rows_of (ownRows c) (off2_eq c) _ _
theorem ownOut_at (c : Dev nD) : (M3.slice (Rect.unit (s := S512x512) (k0_off3 c) S32x512.size (k0_off3_inb c)) (fun _ => rfl)
    : Memref sig .tc .vmem S32x512 .f32) = outM c := out_of c (off3_eq c) _ _

omit [FloatOps F] in
/-- A whole buffer as its slice at offset zero. -/
theorem owns_zero (d : Dev nD) (b : Ref sig .tc) {off : Fin b.ty.shape.rank → ℕ} (h : off = fun _ => 0)
    (inb : ∀ a, off a + b.ty.shape.size a ≤ b.ty.shape.size a) (q : PosShare TreeShare) (X : b.ty.Contents (Elt F)) :
    (owns (d : Thread nD τ) (Memref.whole b) q X : sProp 𝕄)
      = owns (d : Thread nD τ) ((Memref.whole b).slice (Rect.unit off b.ty.shape.size inb) (fun _ => rfl)) q X := by
  subst h
  have e : ∀ f, ((Memref.whole b).slice (Rect.unit (fun _ => 0) b.ty.shape.size inb) (fun _ => rfl)).view.read (Elt F) f = f := fun f =>
    Memref.read_access_whole (Elt F) b f
  have e' : ((Memref.whole b).slice (Rect.unit (fun _ => 0) b.ty.shape.size inb) (fun _ => rfl)).view.set = Finset.univ :=
    Memref.set_access_whole b
  unfold owns
  simp only [e, e', Memref.view_whole, View.read_whole, View.set_whole]

theorem zeros : (![0, 0] : Fin 2 → ℕ) = fun _ => 0 := by funext a; match a with | 0 => rfl | 1 => rfl

omit [FloatOps F] in
theorem of_eq {A B : sProp 𝕄} (h : A = B) : A ⊢ B := by rw [h]
omit [FloatOps F] in
theorem own_rows_eq (c : Dev nD) : (owns (c : Thread nD τ) (rowsM (ownRows c)) fullShare (rowsVal X0 (ownRows c) c) : sProp 𝕄)
    ⊣⊢ owns (c : Thread nD τ) (M0.slice (Rect.unit (s := S128x512) (k0_off2 c) S32x512.size (k0_off2_inb c)) (fun _ => rfl)
    : Memref sig .tc .vmem S32x512 .f32) fullShare (rowsVal X0 (ownRows c) c) := by
  rw [ownRows_at c]
omit [FloatOps F] in
theorem own_out_eq (c : Dev nD) (d : S32x512.Idx → Elt F .f32) : (owns (c : Thread nD τ) (outM c) fullShare d : sProp 𝕄)
    ⊣⊢ owns (c : Thread nD τ) (M3.slice (Rect.unit (s := S512x512) (k0_off3 c) S32x512.size (k0_off3_inb c)) (fun _ => rfl)
    : Memref sig .tc .vmem S32x512 .f32) fullShare d := by
  rw [ownOut_at c]

theorem slot0_eq (c : Dev nD) : (arrived X0 X1 X2 0 c : sProp 𝕄)
    ⊣⊢ owns (c : Thread nD τ) (M4.slice (slotR 0) (fun _ => rfl)) fullShare (expand (rowsVal X0 (rowsOf 0 (frm 0 c)) (frm 0 c))) :=
  ⟨of_eq (arrived_slot X0 X1 X2 0 c), of_eq (arrived_slot X0 X1 X2 0 c).symm⟩
theorem slot1_eq (c : Dev nD) : (arrived X0 X1 X2 1 c : sProp 𝕄)
    ⊣⊢ owns (c : Thread nD τ) (M4.slice (slotR 1) (fun _ => rfl)) fullShare (expand (rowsVal X0 (rowsOf 1 (frm 1 c)) (frm 1 c))) :=
  ⟨of_eq (arrived_slot X0 X1 X2 1 c), of_eq (arrived_slot X0 X1 X2 1 c).symm⟩
theorem slot2_eq (c : Dev nD) : (arrived X0 X1 X2 2 c : sProp 𝕄)
    ⊣⊢ owns (c : Thread nD τ) (M4.slice (slotR 2) (fun _ => rfl)) fullShare (expand (rowsVal X0 (rowsOf 2 (frm 2 c)) (frm 2 c))) :=
  ⟨of_eq (arrived_slot X0 X1 X2 2 c), of_eq (arrived_slot X0 X1 X2 2 c).symm⟩
theorem piece_back (c : Dev nD) : (owns (c : Thread nD τ) (M3.slice (Rect.unit (s := S512x512) (k0_off3 c) S32x512.size (k0_off3_inb c)) (fun _ => rfl)
    : Memref sig .tc .vmem S32x512 .f32) fullShare
      (k0_pay1 (rowsVal X0 (ownRows c) c) (expand (rowsVal X0 (rowsOf 0 (frm 0 c)) (frm 0 c))) (expand (rowsVal X0 (rowsOf 1 (frm 1 c)) (frm 1 c)))
        (expand (rowsVal X0 (rowsOf 2 (frm 2 c)) (frm 2 c))) (X1 c) (X2 c)) : sProp 𝕄)
    ⊢ owns (c : Thread nD τ) (outM c) fullShare (pieceVal X0 X1 X2 c) := (own_out_eq c (pieceVal X0 X1 X2 c)).2

/-- The last of the first arrivals, and the piece. -/
theorem part22_run (Kt : PUnit → sProp (MT nD τ sig Unit (Elt F) ℕ UU ℕ)) (h0 h1 h2 h3 h4) (v8 v13 : BitVec 32) :
    iprop((St X0 X1 X2 K c 3 0 262140 0 3 ∗ Inputs X0 X1 X2 c ∗ ∃ d, owns (c : Thread nD τ) (outM c) fullShare d)
        ∗ (∀ r, (St X0 X1 X2 K c 3 0 262136 504 7 ∗ Inputs X0 X1 X2 c) -∗ Kt r))
      ⊢ wp frame (wpE (defs₀ (F := F)) 𝒱₀ (c : Thread nD τ) none) Set.univ
          (k0_part22 M0 h0 M1 h1 M2 h2 M3 h3 M4 h4 cc0_scratch1 cc0_scratch2 cc0_scratch3 cc0_scratch4 cc0_scratch5 cc0_scratch6 c v8 v13) Kt := by
  rw [k0_part22_eq_skeleton]
  unfold k0_part22_skel
  simp only [Prog.lift, Prog.bind_op, Prog.bind_ret, Prog.pure_eq_ret]
  unfold Inputs
  iintro ⟨⟨H, ⟨H0, H1, H2⟩, %d, H3⟩, Hk⟩
  iapply (recv_step X0 X1 X2 2 3 0 262140 262136 0 3 7 (by decide +kernel) (by decide +kernel) (by decide +kernel) (by decide +kernel)
    (by rfl) (by rfl)) $$ H
  iintro H
  ihave H := (St_open X0 X1 X2 3 0 262136 c) $$ H
  icases H with ⟨⟨Ha, Hb, Hc⟩, H⟩
  ihave Ha := (slot0_eq X0 X1 X2 c).1 $$ Ha
  ihave Hb := (slot1_eq X0 X1 X2 c).1 $$ Hb
  ihave Hc := (slot2_eq X0 X1 X2 c).1 $$ Hc
  ihave H0 := (own_rows_eq X0 c).1 $$ H0
  ihave H1 := (of_eq (owns_zero c cc0_stg1_0 zeros inb_S32x512_S32x512_0_0 fullShare (X1 c))) $$ H1
  ihave H2 := (of_eq (owns_zero c cc0_stg2_0 zeros inb_S1x512_S1x512_0_0 fullShare (X2 c))) $$ H2
  ihave H3 := (own_out_eq c d).1 $$ H3
  iapply (load_step M0 (Rect.unit (s := S128x512) (k0_off2 c) S32x512.size (k0_off2_inb c)) (fun _ => rfl)) $$ H0
  iintro H0
  iapply (load_step M4 (slotR 0) (fun _ => rfl)) $$ Ha
  iintro Ha
  iapply (load_step M4 (slotR 1) (fun _ => rfl)) $$ Hb
  iintro Hb
  iapply (load_step M4 (slotR 2) (fun _ => rfl)) $$ Hc
  iintro Hc
  iapply (load_step M1 (Rect.unit (s := S32x512) ![0, 0] S32x512.size inb_S32x512_S32x512_0_0) (fun _ => rfl)) $$ H1
  iintro H1
  iapply (load_step M2 (Rect.unit (s := S1x512) ![0, 0] S1x512.size inb_S1x512_S1x512_0_0) (fun _ => rfl)) $$ H2
  iintro H2
  iapply (load_step M3 (Rect.unit (s := S512x512) (k0_off3 c) S32x512.size (k0_off3_inb c)) (fun _ => rfl)) $$ H3
  iintro H3
  iapply (store_step M3 (Rect.unit (s := S512x512) (k0_off3 c) S32x512.size (k0_off3_inb c)) (fun _ => rfl)) $$ H3
  iintro H3
  rw [wp_ret]
  imodintro
  ihave H3 := (piece_back X0 X1 X2 c) $$ H3
  ihave H3 := (own_lents X0 X1 X2 c).1 $$ H3
  ihave Ha := (slot0_eq X0 X1 X2 c).2 $$ Ha
  ihave Hb := (slot1_eq X0 X1 X2 c).2 $$ Hb
  ihave Hc := (slot2_eq X0 X1 X2 c).2 $$ Hc
  ihave H0 := (own_rows_eq X0 c).2 $$ H0
  ihave H1 := (of_eq (owns_zero c cc0_stg1_0 zeros inb_S32x512_S32x512_0_0 fullShare (X1 c)).symm) $$ H1
  ihave H2 := (of_eq (owns_zero c cc0_stg2_0 zeros inb_S1x512_S1x512_0_0 fullShare (X2 c)).symm) $$ H2
  ispecialize H $$ [Ha Hb Hc]
  · isplitl [Ha]; · iexact Ha
    isplitl [Hb]; · iexact Hb
    iexact Hc
  ispecialize H $$ H3
  iapply Hk
  isplitl [H]; · iexact H
  isplitl [H0]; · iexact H0
  isplitl [H1]; · iexact H1
  iexact H2

end Cert.Proof
-- ==== Proof.Body.lean ====
/-
  THE BODY at every device: from the peers' permissions to the whole result in pieces.
-/
module

public import proofs.«01_k».proof.Proof.Cases
public import proofs.«01_k».proof.Proof.Compute

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (X0 : Dev nD → S128x512.Idx → Elt F .f32) (X1 : Dev nD → S32x512.Idx → Elt F .f32) (X2 : Dev nD → S1x512.Idx → Elt F .f32)

local notation "𝕄" => MT nD τ sig Unit (Elt F) ℕ UU ℕ

variable {α : Type} {Q : α → sProp (MT nD τ sig Unit (Elt F) ℕ UU ℕ)} {K : GSem nD τ sig → ℕ} {c : Dev nD}
variable {P : sProp (MT nD τ sig Unit (Elt F) ℕ UU ℕ)}

omit [FloatOps F] in
theorem sep_regroup (A B C D : sProp 𝕄) : iprop(A ∗ B ∗ C ∗ D) ⊢ iprop((A ∗ B ∗ C) ∗ D) := by
  iintro ⟨HA, HB, HC, HD⟩
  isplitr [HD]
  · isplitl [HA]; · iexact HA
    isplitl [HB]; · iexact HB
    iexact HC
  iexact HD
omit [FloatOps F] in
theorem sep_assoc_l (A B C : sProp 𝕄) : iprop((A ∗ B) ∗ C) ⊢ iprop(A ∗ B ∗ C) := by
  iintro ⟨⟨HA, HB⟩, HC⟩
  isplitl [HA]; · iexact HA
  isplitl [HB]; · iexact HB
  iexact HC

/-- The device asks for its own name. -/
theorem part17_run (h0 h1 h2 h3 h4) {k : _ → Prog (TpuEff nD τ sig (Elt F) Λ₀ .tc) α}
    (hk : ∀ v2 v5 v8 v11 v13 v24 v35, P ⊢ wp frame (wpE (defs₀ (F := F)) 𝒱₀ (c : Thread nD τ) none) Set.univ (k ⟨c, v2, v5, v8, v11, v13, v24, v35⟩) Q) :
    P ⊢ wp frame (wpE (defs₀ (F := F)) 𝒱₀ (c : Thread nD τ) none) Set.univ (k0_part17 M0 h0 M1 h1 M2 h2 M3 h3 M4 h4 cc0_scratch1 cc0_scratch2 cc0_scratch3 cc0_scratch4 cc0_scratch5 cc0_scratch6 >>= k) Q := by
  rw [k0_part17_eq_skeleton]
  unfold k0_part17_skel
  simp only [Prog.lift, Prog.bind_op, Prog.bind_ret, Prog.pure_eq_ret, wp_deviceId]
  exact hk _ _ _ _ _ _ _

theorem signal_run (i : Fin 6) (n n' : ℕ) (hn : n = i.val) (hn' : n' = i.val + 1) {p : Dev nD} (hp : p = peer i c)
    {k : PUnit → Prog (TpuEff nD τ sig (Elt F) Λ₀ .tc) α}
    (hk : iprop(Bar X0 X1 X2 K c n' ∗ P) ⊢ wp frame (wpE (defs₀ (F := F)) 𝒱₀ (c : Thread nD τ) none) Set.univ (k ⟨⟩) Q) :
    iprop(Bar X0 X1 X2 K c n ∗ P) ⊢ wp frame (wpE (defs₀ (F := F)) 𝒱₀ (c : Thread nD τ) none) Set.univ (.op (.semSignal (Dev.tc p) barS 1) k) Q := by
  subst hn hn'
  iintro ⟨H, Hp⟩
  iapply (signal_step X0 X1 X2 i hp) $$ H
  iintro H
  iapply hk
  isplitl [H]; · iexact H
  iexact Hp

/-- The first two peers are signalled, -/
theorem part18_run (h0 h1 h2 h3 h4) (v2 v5 v8 v24 v35 : BitVec 32) {k : _ → Prog (TpuEff nD τ sig (Elt F) Λ₀ .tc) α}
    (hk : ∀ v46 v47 v48 v49 v50 v67 c1, iprop(Bar X0 X1 X2 K c 2 ∗ P)
      ⊢ wp frame (wpE (defs₀ (F := F)) 𝒱₀ (c : Thread nD τ) none) Set.univ (k ⟨v46, v47, v48, v49, v50, SemArray.scalar (sig.barrier 0 rfl), v67, c1⟩) Q) :
    iprop(Bar X0 X1 X2 K c 0 ∗ P) ⊢ wp frame (wpE (defs₀ (F := F)) 𝒱₀ (c : Thread nD τ) none) Set.univ (k0_part18 M0 h0 M1 h1 M2 h2 M3 h3 M4 h4 cc0_scratch1 cc0_scratch2 cc0_scratch3 cc0_scratch4 cc0_scratch5 cc0_scratch6 c v2 v5 v8 v24 v35 >>= k) Q := by
  rw [k0_part18_eq_skeleton]
  unfold k0_part18_skel
  simp only [semSignalWord, Prog.lift, Prog.bind_op, Prog.bind_ret, Prog.pure_eq_ret]
  refine signal_run X0 X1 X2 0 0 1 rfl rfl (by exact dev1 c) ?_
  refine signal_run X0 X1 X2 1 1 2 rfl rfl (by exact dev2 c) ?_
  exact hk _ _ _ _ _ _ _

/-- and the other four; then the six permissions are waited for. -/
theorem part19_run (h0 h1 h2 h3 h4) (v2 v5 v8 v24 v46 v47 v48 v49 v50 v67 c1 : BitVec 32) {k : _ → Prog (TpuEff nD τ sig (Elt F) Λ₀ .tc) α}
    (hk : iprop(St X0 X1 X2 K c 0 0 262143 7 0 ∗ atPos ER (barCell c) 1 (∅ : Finset (Fin 6)) 0 ∗ P) ⊢ wp frame (wpE (defs₀ (F := F)) 𝒱₀ (c : Thread nD τ) none) Set.univ (k ⟨⟩) Q) :
    iprop(Bar X0 X1 X2 K c 2 ∗ Held X0 X1 X2 c ∗ cred (tallyAt (barCell c) () 6) ∗ atPos ER (barCell c) 0 (∅ : Finset (Fin 6)) 0 ∗ P)
      ⊢ wp frame (wpE (defs₀ (F := F)) 𝒱₀ (c : Thread nD τ) none) Set.univ (k0_part19 M0 h0 M1 h1 M2 h2 M3 h3 M4 h4 cc0_scratch1 cc0_scratch2 cc0_scratch3 cc0_scratch4 cc0_scratch5 cc0_scratch6 c v2 v5 v8 v24 v46 v47 v48 v49 v50 (SemArray.scalar (sig.barrier 0 rfl)) v67 c1 >>= k) Q := by
  rw [k0_part19_eq_skeleton]
  unfold k0_part19_skel
  simp only [semSignalWord, semWaitWord, Prog.lift, Prog.bind_op, Prog.bind_ret, Prog.pure_eq_ret]
  refine signal_run X0 X1 X2 2 2 3 rfl rfl (by exact dev3 c) ?_
  refine signal_run X0 X1 X2 3 3 4 rfl rfl (by exact dev4 c) ?_
  refine signal_run X0 X1 X2 4 4 5 rfl rfl (by exact dev5 c) ?_
  refine signal_run X0 X1 X2 5 5 6 rfl rfl (by exact dev6 c) ?_
  iintro ⟨HB, HH, Hc, Ha, Hp⟩
  iapply (barrier_step X0 X1 X2) $$ [HB HH Hc Ha]
  · isplitl [HB]; · iexact HB
    isplitl [HH]; · iexact HH
    isplitl [Hc]; · iexact Hc
    iexact Ha
  iintro ⟨HS, Ha⟩
  iapply hk
  isplitl [HS]; · iexact HS
  isplitl [Ha]; · iexact Ha
  iexact Hp

/-- What a device's body starts from, -/
def Start (K : GSem nD τ sig → ℕ) (c : Dev nD) : sProp 𝕄 :=
  iprop(Bar X0 X1 X2 K c 0 ∗ Held X0 X1 X2 c ∗ cred (tallyAt (barCell c) () 6) ∗ atPos ER (barCell c) 0 (∅ : Finset (Fin 6)) 0
    ∗ Inputs X0 X1 X2 c ∗ ∃ d, owns (c : Thread nD τ) (outM c) fullShare d)
/-- and what it ends with. -/
def End (K : GSem nD τ sig → ℕ) (c : Dev nD) : sProp 𝕄 :=
  iprop(St X0 X1 X2 K c 18 18 0 262143 262087 ∗ Inputs X0 X1 X2 c ∗ atPos ER (barCell c) 1 (∅ : Finset (Fin 6)) 0)

set_option maxHeartbeats 4000000 in
theorem body_run (Kt : PUnit → sProp (MT nD τ sig Unit (Elt F) ℕ UU ℕ)) (h0 h1 h2 h3 h4) :
    iprop(Start X0 X1 X2 K c ∗ (End X0 X1 X2 K c -∗ Kt ⟨⟩)) ⊢ wp frame (wpE (defs₀ (F := F)) 𝒱₀ (c : Thread nD τ) none) Set.univ (cc0_body M0 h0 M1 h1 M2 h2 M3 h3 M4 h4 cc0_scratch1 cc0_scratch2 cc0_scratch3 cc0_scratch4 cc0_scratch5 cc0_scratch6) Kt := by
  rw [cc0_body_eq_skeleton]
  unfold cc0_body_skel
  simp only [Prog.lift, Prog.bind_op, Prog.bind_ret, Prog.pure_eq_ret]
  refine part17_run _ _ _ _ _ fun _ _ _ _ _ _ _ => ?_
  refine BIBase.Entails.trans (Q := iprop(Bar X0 X1 X2 K c 0 ∗ Held X0 X1 X2 c ∗ cred (tallyAt (barCell c) () 6)
    ∗ atPos ER (barCell c) 0 (∅ : Finset (Fin 6)) 0 ∗ Inputs X0 X1 X2 c ∗ (∃ d, owns (c : Thread nD τ) (outM c) fullShare d)
    ∗ (End X0 X1 X2 K c -∗ Kt ⟨⟩))) ?_ ?_
  · unfold Start
    iintro ⟨⟨H1, H2, H3, H4, H5, H6⟩, H7⟩
    isplitl [H1]; · iexact H1
    isplitl [H2]; · iexact H2
    isplitl [H3]; · iexact H3
    isplitl [H4]; · iexact H4
    isplitl [H5]; · iexact H5
    isplitl [H6]; · iexact H6
    iexact H7
  refine part18_run X0 X1 X2 _ _ _ _ _ _ _ _ _ _ fun _ _ _ _ _ _ _ => ?_
  refine part19_run X0 X1 X2 _ _ _ _ _ _ _ _ _ _ _ _ _ _ _ _ ?_
  refine BIBase.Entails.trans (Q := iprop(St X0 X1 X2 K c 0 0 262143 7 0 ∗ Inputs X0 X1 X2 c ∗ (∃ d, owns (c : Thread nD τ) (outM c) fullShare d)
    ∗ atPos ER (barCell c) 1 (∅ : Finset (Fin 6)) 0 ∗ (End X0 X1 X2 K c -∗ Kt ⟨⟩))) ?_ ?_
  · iintro ⟨H1, H2, H3, H4, H5⟩
    isplitl [H1]; · iexact H1
    isplitl [H3]; · iexact H3
    isplitl [H4]; · iexact H4
    isplitl [H2]; · iexact H2
    iexact H5
  refine bind_run (fun Kt => part20_run X0 X1 X2 Kt _ _ _ _ _ _ _ _ _ ) fun _ => ?_
  refine bind_run (fun Kt => part21_run X0 X1 X2 Kt _ _ _ _ _ _ _ _ _ _ ) fun _ => ?_
  refine (sep_regroup _ _ _ _).trans ?_
  refine bind_run (fun Kt => part22_run X0 X1 X2 Kt _ _ _ _ _ _ _) fun _ => ?_
  refine (sep_assoc_l _ _ _).trans ?_
  refine bind_run (fun Kt => part23_run X0 X1 X2 Kt _ _ _ _ _ _ _ _ _ _ ) fun _ => ?_
  refine bind_run (fun Kt => part24_run X0 X1 X2 Kt _ _ _ _ _ _ _ _ _ _ _ _ ) fun _ => ?_
  refine bind_run (fun Kt => part25_run X0 X1 X2 Kt _ _ _ _ _ _ _ _ _ _ _ _ _ _ _ _ _ _ ) fun _ => ?_
  refine bind_run (fun Kt => part26_run X0 X1 X2 Kt _ _ _ _ _ _ _ _ _ _ _ _ ) fun _ => ?_
  refine bind_run (fun Kt => part27_run X0 X1 X2 Kt _ _ _ _ _ _ _ _ _ _ _ _ ) fun _ => ?_
  refine bind_run (fun Kt => part28_run X0 X1 X2 Kt _ _ _ _ _ _ _ _ _ _ _ _ ) fun _ => ?_
  refine bind_run (fun Kt => part29_run X0 X1 X2 Kt _ _ _ _ _ _ _ _ _ _ _ _ ) fun _ => ?_
  refine bind_run (fun Kt => part30_run X0 X1 X2 Kt _ _ _ _ _ _ _ ) fun _ => ?_
  refine bind_run (fun Kt => part31_run X0 X1 X2 Kt _ _ _ _ _ ) fun _ => ?_
  refine bind_run (fun Kt => part32_run X0 X1 X2 Kt _ _ _ _ _ ) fun _ => ?_
  refine depart_run X0 X1 X2 14 14 15 0 16383 32767 262087 rfl rfl (by decide +kernel) (by rfl) (by rfl) ?_
  refine depart_run X0 X1 X2 15 15 16 0 32767 65535 262087 rfl rfl (by decide +kernel) (by rfl) (by rfl) ?_
  refine depart_run X0 X1 X2 16 16 17 0 65535 131071 262087 rfl rfl (by decide +kernel) (by rfl) (by rfl) ?_
  refine depart_run X0 X1 X2 17 17 18 0 131071 262143 262087 rfl rfl (by decide +kernel) (by rfl) (by rfl) ?_
  rw [wp_ret]
  unfold End
  iintro ⟨HS, HI, Ha, Hk⟩
  imodintro
  iapply Hk
  isplitl [HS]; · iexact HS
  isplitl [HI]; · iexact HI
  iexact Ha

end Cert.Proof
-- ==== Proof.Pieces.lean ====
/-
  THE PIECES of the buffers: a device's staged partial by its blocks, its staged result by its pieces and its scratch buffer by
  its slots, taken apart on entry and put together again at the end.
-/
module

public import proofs.«01_k».proof.Proof.Body

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (X0 : Dev nD → S128x512.Idx → Elt F .f32) (X1 : Dev nD → S32x512.Idx → Elt F .f32) (X2 : Dev nD → S1x512.Idx → Elt F .f32)

local notation "𝕄" => MT nD τ sig Unit (Elt F) ℕ UU ℕ

/-! ### The rectangles -/

theorem rows_disj (t t' : Fin 4) (h : t ≠ t') : Disjoint (rowsR t).set (rowsR t').set :=
  Rect.disjoint_of_separated _ _ 0 (by
    have : t.val ≠ t'.val := fun e => h (Fin.ext e)
    show (32 = 0 ∨ 32 * t.val + 1 * (32 - 1) < 32 * t'.val) ∨ (32 = 0 ∨ 32 * t'.val + 1 * (32 - 1) < 32 * t.val)
    omega)
theorem out_disj (t t' : Dev nD) (h : t ≠ t') : Disjoint (outR t).set (outR t').set :=
  Rect.disjoint_of_separated _ _ 0 (by
    have : t.val ≠ t'.val := fun e => h (Fin.ext e)
    show (32 = 0 ∨ 32 * t.val + 1 * (32 - 1) < 32 * t'.val) ∨ (32 = 0 ∨ 32 * t'.val + 1 * (32 - 1) < 32 * t.val)
    omega)
theorem slot_disj (t t' : Fin 3) (h : t ≠ t') : Disjoint (slotR t).set (slotR t').set :=
  Rect.disjoint_of_separated _ _ 0 (by
    have : t.val ≠ t'.val := fun e => h (Fin.ext e)
    show (1 = 0 ∨ t.val + 1 * (1 - 1) < t'.val) ∨ (1 = 0 ∨ t'.val + 1 * (1 - 1) < t.val)
    omega)

theorem rows_cover : (Finset.univ : Finset (Fin 4)).biUnion (fun t => (rowsR t).set) = Finset.univ := by
  refine Finset.eq_univ_iff_forall.mpr fun i => Finset.mem_biUnion.mpr ?_
  have h0 : (i 0).val < 128 := (i 0).isLt
  have h1 : (i 1).val < 512 := (i 1).isLt
  refine ⟨⟨(i 0).val / 32, by omega⟩, Finset.mem_univ _, Rect.mem_set_unit.mpr fun a => ?_⟩
  match a with
  | 0 => show 32 * ((i 0).val / 32) ≤ (i 0).val ∧ (i 0).val < 32 * ((i 0).val / 32) + 32; omega
  | 1 => show 0 ≤ (i 1).val ∧ (i 1).val < 0 + 512; omega
theorem out_cover : (Finset.univ : Finset (Dev nD)).biUnion (fun t => (outR t).set) = Finset.univ := by
  refine Finset.eq_univ_iff_forall.mpr fun i => Finset.mem_biUnion.mpr ?_
  have h0 : (i 0).val < 512 := (i 0).isLt
  have h1 : (i 1).val < 512 := (i 1).isLt
  refine ⟨⟨(i 0).val / 32, by show _ < 16; omega⟩, Finset.mem_univ _, Rect.mem_set_unit.mpr fun a => ?_⟩
  match a with
  | 0 => show 32 * ((i 0).val / 32) ≤ (i 0).val ∧ (i 0).val < 32 * ((i 0).val / 32) + 32; omega
  | 1 => show 0 ≤ (i 1).val ∧ (i 1).val < 0 + 512; omega
theorem slot_cover : (Finset.univ : Finset (Fin 3)).biUnion (fun t => (slotR t).set) = Finset.univ := by
  refine Finset.eq_univ_iff_forall.mpr fun i => Finset.mem_biUnion.mpr ?_
  have h0 : (i 0).val < 3 := (i 0).isLt
  have h1 : (i 1).val < 32 := (i 1).isLt
  have h2 : (i 2).val < 512 := (i 2).isLt
  refine ⟨⟨(i 0).val, h0⟩, Finset.mem_univ _, Rect.mem_set_unit.mpr fun a => ?_⟩
  match a with
  | 0 => show (i 0).val ≤ (i 0).val ∧ (i 0).val < (i 0).val + 1; omega
  | 1 => show 0 ≤ (i 1).val ∧ (i 1).val < 0 + 32; omega
  | 2 => show 0 ≤ (i 2).val ∧ (i 2).val < 0 + 512; omega

/-! ### The blocks and pieces, by the transfers -/

/-- A device's own block, and the three it sends. -/
theorem rows_univ : ∀ c : Dev nD, (Finset.univ : Finset (Fin 4)) = insert (ownRows c) (Finset.univ.image fun i : Fin 3 => rowsOf i c)
    ∧ ownRows c ∉ (Finset.univ.image fun i : Fin 3 => rowsOf i c) ∧ ∀ i j : Fin 3, rowsOf i c = rowsOf j c → i = j := by decide +kernel
/-- The piece transfer `x` brings to `c`. -/
abbrev brought (c : Dev nD) (x : Fin 18) : Dev nD := piece x (frm x c)
/-- A device's own piece, and the fifteen that come. -/
theorem out_univ : ∀ c : Dev nD, (Finset.univ : Finset (Dev nD)) = insert c ((fromN 3).image (brought c))
    ∧ c ∉ (fromN 3).image (brought c) := by decide +kernel
theorem out_inj : ∀ c : Dev nD, ∀ x ∈ (fromN 3 : Finset (Fin 18)), ∀ y ∈ (fromN 3 : Finset (Fin 18)), brought c x = brought c y → x = y := by
  decide +kernel
theorem first_univ : (Finset.univ : Finset (Fin 18)) = insert 0 (insert 1 (insert 2 (fromN 3))) := by decide +kernel
theorem bits7 : bits 7 = (Finset.univ : Finset (Fin 3)).image fun i => (⟨i.val, by omega⟩ : Fin 18) := by decide +kernel

omit [FloatOps F] in
theorem big_rows (c : Dev nD) (Φ : Fin 4 → sProp 𝕄) :
    bigSep Finset.univ Φ = iprop(Φ (ownRows c) ∗ bigSep Finset.univ fun i : Fin 3 => Φ (rowsOf i c)) := by
  rw [(rows_univ c).1, big_insert (rows_univ c).2.1, bigSep_image_of_injOn fun i _ j _ e => (rows_univ c).2.2 i j e]
omit [FloatOps F] in
theorem big_out (c : Dev nD) (Φ : Dev nD → sProp 𝕄) :
    bigSep Finset.univ Φ = iprop(Φ c ∗ bigSep (fromN 3) fun x : Fin 18 => Φ (brought c x)) := by
  rw [(out_univ c).1, big_insert (out_univ c).2, bigSep_image_of_injOn fun x hx y hy e => out_inj c x hx y hy e]
omit [FloatOps F] in
theorem big_first (Φ : Fin 18 → sProp 𝕄) :
    bigSep Finset.univ Φ = iprop(Φ 0 ∗ Φ 1 ∗ Φ 2 ∗ bigSep (fromN 3) Φ) := by
  rw [first_univ, big_insert (by decide +kernel), big_insert (by decide +kernel), big_insert (by decide +kernel)]
omit [FloatOps F] in
theorem big_three (Φ : Fin 3 → sProp 𝕄) : bigSep Finset.univ Φ = iprop(Φ 0 ∗ Φ 1 ∗ Φ 2) :=
  bigSep_univ_eq_bigSepL [(0 : Fin 3), 1, 2] (by decide) (by decide) Φ
omit [FloatOps F] in
theorem big_seven (Φ : Fin 18 → sProp 𝕄) : bigSep (bits 7) Φ = bigSep Finset.univ fun i : Fin 3 => Φ ⟨i.val, by omega⟩ := by
  rw [bits7, bigSep_image_of_injOn fun i _ j _ e => Fin.ext (Fin.mk.inj e)]

/-! ### On entry -/

theorem lent_rows (i : Fin 3) (c : Dev nD) : (lent X0 X1 X2 ⟨i.val, by omega⟩ c : sProp 𝕄)
    = owns (c : Thread nD τ) (rowsM (rowsOf i c)) fullShare (rowsVal X0 (rowsOf i c) c) := by
  have hs : shr ⟨i.val, by omega⟩ = fullShare := by
    match i with
    | 0 => rfl
    | 1 => rfl
    | 2 => rfl
  unfold lent srcM val
  rw [dif_pos (show (⟨i.val, by omega⟩ : Fin 18).val < 3 from i.isLt), dif_pos (show (⟨i.val, by omega⟩ : Fin 18).val < 3 from i.isLt), hs]

/-- The staged partial, by its blocks. -/
theorem rows_split (c : Dev nD) : (owns (c : Thread nD τ) M0 fullShare (X0 c) : sProp 𝕄)
    ⊣⊢ iprop(owns (c : Thread nD τ) (rowsM (ownRows c)) fullShare (rowsVal X0 (ownRows c) c) ∗ bigSep (bits 7) fun x => lent X0 X1 X2 x c) := by
  have e : (bigSep Finset.univ fun t : Fin 4 => (owns (c : Thread nD τ) (rowsM t) fullShare (rowsVal X0 t c) : sProp 𝕄))
      = iprop(owns (c : Thread nD τ) (rowsM (ownRows c)) fullShare (rowsVal X0 (ownRows c) c) ∗ bigSep (bits 7) fun x => lent X0 X1 X2 x c) := by
    rw [big_rows c, big_seven]
    exact congrArg (fun Y => iprop(_ ∗ Y)) (bigSep_congr fun i _ => (lent_rows X0 X1 X2 i c).symm)
  rw [← e]
  exact ⟨owns_rects (c : Thread nD τ) M0 fullShare rowsR (fun _ _ => rfl) rows_disj rows_cover (X0 c),
    owns_of_rects (c : Thread nD τ) M0 fullShare rowsR (fun _ _ => rfl) rows_disj rows_cover (X0 c)⟩

omit [FloatOps F] in
theorem land_slot (i : Fin 3) (c : Dev nD) : (land ⟨i.val, by omega⟩ c : sProp 𝕄) = iprop(∃ X, owns (c : Thread nD τ) (slotM i) fullShare X) := by
  unfold land dstM; rw [dif_pos (show (⟨i.val, by omega⟩ : Fin 18).val < 3 from i.isLt)]
omit [FloatOps F] in
theorem land_out (x : Fin 18) (h : x ∈ (fromN 3 : Finset (Fin 18))) (c : Dev nD) :
    (land x c : sProp 𝕄) = iprop(∃ X, owns (c : Thread nD τ) (outM (brought c x)) fullShare X) := by
  have h' : 3 ≤ x.val := (Finset.mem_filter.mp h).2
  unfold land dstM; rw [dif_neg (show ¬ x.val < 3 by omega)]

omit [FloatOps F] in
theorem slot_land (i : Fin 3) (c : Dev nD) (Y : S3x32x512.Idx → Elt F .f32) :
    (owns (c : Thread nD τ) (M4.slice (slotR i) (fun _ => rfl)) fullShare (fun j => Y ((slotR i).emb j)) : sProp 𝕄) ⊢ land ⟨i.val, by omega⟩ c := by
  rw [land_slot]
  iintro H
  have h1 : S1x32x512.ShapeCasts S32x512 := by decide
  have h2 : S32x512.ShapeCasts S1x32x512 := by decide
  iexists shapeCast S32x512 (fun j : S1x32x512.Idx => Y ((slotR i).emb j)) h1
  have e := owns_squeeze c (M4.slice (slotR i) (fun _ => rfl)) squeezes_S1x32x512_S32x512 h2 fullShare
    (shapeCast S32x512 (fun j : S1x32x512.Idx => Y ((slotR i).emb j)) h1)
  rw [shapeCast_shapeCast] at e
  iapply (of_eq e.symm)
  iexact H

omit [FloatOps F] in
/-- The staged result and the scratch buffer, at contents not chosen, are the place of the device's own piece and the landing places. -/
theorem lands_intro (c : Dev nD) (X3 : S512x512.Idx → Elt F .f32) (X4 : S3x32x512.Idx → Elt F .f32) :
    iprop(owns (c : Thread nD τ) M3 fullShare X3 ∗ owns (c : Thread nD τ) M4 fullShare X4)
      ⊢ (iprop((∃ d, owns (c : Thread nD τ) (outM c) fullShare d) ∗ bigSep Finset.univ fun x => land x c) : sProp 𝕄) := by
  iintro ⟨H3, H4⟩
  have h3 : owns (c : Thread nD τ) M3 fullShare X3 ⊢ (iprop(owns (c : Thread nD τ) (outM c) fullShare (fun j => X3 ((outR c).emb j))
      ∗ bigSep (fromN 3) fun x : Fin 18 => owns (c : Thread nD τ) (outM (brought c x)) fullShare (fun j => X3 ((outR (brought c x)).emb j))) : sProp 𝕄) :=
    BIBase.Entails.trans (owns_rects (c : Thread nD τ) M3 fullShare outR (fun _ _ => rfl) out_disj out_cover X3)
      (of_eq (big_out c fun t => owns (c : Thread nD τ) (outM t) fullShare (fun j => X3 ((outR t).emb j))))
  have h4 : owns (c : Thread nD τ) M4 fullShare X4 ⊢ (iprop(land 0 c ∗ land 1 c ∗ land 2 c) : sProp 𝕄) :=
    BIBase.Entails.trans (owns_rects (c : Thread nD τ) M4 fullShare slotR (fun _ _ => rfl) slot_disj slot_cover X4)
      (BIBase.Entails.trans (big_mono fun i _ => slot_land i c X4) (of_eq (big_three _)))
  ihave H3 := h3 $$ H3
  ihave H4 := h4 $$ H4
  icases H3 with ⟨Hc, H3⟩
  isplitl [Hc]; · iexists _; iexact Hc
  icases H4 with ⟨Ha, Hb, Hd⟩
  iapply (of_eq (big_first fun x => land x c).symm)
  isplitl [Ha]; · iexact Ha
  isplitl [Hb]; · iexact Hb
  isplitl [Hd]; · iexact Hd
  iapply (big_mono (s := (fromN 3 : Finset (Fin 18))) (Φ := fun x => owns (c : Thread nD τ) (outM (brought c x)) fullShare (fun j => X3 ((outR (brought c x)).emb j)))
    (Ψ := fun x => land x c) fun x hx => by
      rw [land_out x hx c]
      iintro H; iexists _; iexact H)
  iexact H3

/-! ### At the end -/

theorem arrived_out (x : Fin 18) (h : x ∈ (fromN 3 : Finset (Fin 18))) (c : Dev nD) :
    (arrived X0 X1 X2 x c : sProp 𝕄) = owns (c : Thread nD τ) (outM (brought c x)) fullShare (pieceVal X0 X1 X2 (brought c x)) := by
  have h' : 3 ≤ x.val := (Finset.mem_filter.mp h).2
  unfold arrived dstM val; rw [dif_neg (show ¬ x.val < 3 by omega), dif_neg (show ¬ x.val < 3 by omega)]

/-- The own piece and the fifteen others are the whole result. -/
theorem out_join (c : Dev nD) : iprop(owns (c : Thread nD τ) (outM c) fullShare (pieceVal X0 X1 X2 c)
      ∗ bigSep (fromN 3) fun x => arrived X0 X1 X2 x c)
    ⊢ (owns (c : Thread nD τ) M3 fullShare (outVal X0 X1 X2) : sProp 𝕄) := by
  have e : (bigSep Finset.univ fun d : Dev nD => (owns (c : Thread nD τ) (outM d) fullShare (pieceVal X0 X1 X2 d) : sProp 𝕄))
      = iprop(owns (c : Thread nD τ) (outM c) fullShare (pieceVal X0 X1 X2 c) ∗ bigSep (fromN 3) fun x => arrived X0 X1 X2 x c) := by
    rw [big_out c]
    exact congrArg (fun Y => iprop(_ ∗ Y)) (bigSep_congr fun x hx => (arrived_out X0 X1 X2 x hx c).symm)
  rw [← e]
  refine BIBase.Entails.trans (big_mono fun d _ => of_eq (congrArg (owns (c : Thread nD τ) (outM d) fullShare) (outVal_piece X0 X1 X2 d).symm))
    (owns_of_rects (c : Thread nD τ) M3 fullShare outR (fun _ _ => rfl) out_disj out_cover (outVal X0 X1 X2))

/-- The slots' contents as the scratch buffer's. -/
def slots (W : Fin 3 → S1x32x512.Idx → Elt F .f32) : S3x32x512.Idx → Elt F .f32 := fun i =>
  W ⟨(i 0).val, (i 0).isLt⟩ (fun a => match a with | 0 => ⟨0, by decide⟩ | 1 => i 1 | 2 => i 2)

omit [FloatOps F] in
theorem slots_at (W : Fin 3 → S1x32x512.Idx → Elt F .f32) (t : Fin 3) : (fun j => slots W ((slotR t).emb j)) = W t := by
  funext j
  have hj : (j 0).val < 1 := (j 0).isLt
  have h0 : (((slotR t).emb j) 0).val = t.val := by
    show t.val + 1 * (j 0).val = _
    omega
  have h1 : (((slotR t).emb j) 1).val = (j 1).val := by
    show 0 + 1 * (j 1).val = _
    omega
  have h2 : (((slotR t).emb j) 2).val = (j 2).val := by
    show 0 + 1 * (j 2).val = _
    omega
  unfold slots
  have e : (⟨(((slotR t).emb j) 0).val, (((slotR t).emb j) 0).isLt⟩ : Fin 3) = t := Fin.ext h0
  rw [e]
  congr 1
  funext a
  match a with
  | 0 => exact Fin.ext (by show 0 = (j 0).val; omega)
  | 1 => exact Fin.ext h1
  | 2 => exact Fin.ext h2

/-- The slots are the scratch buffer. -/
theorem slots_join (c : Dev nD) : iprop(arrived X0 X1 X2 0 c ∗ arrived X0 X1 X2 1 c ∗ arrived X0 X1 X2 2 c)
    ⊢ (iprop(∃ X, owns (c : Thread nD τ) M4 fullShare X) : sProp 𝕄) := by
  let W : Fin 3 → S1x32x512.Idx → Elt F .f32 := fun i => expand (rowsVal X0 (rowsOf i (frm ⟨i.val, by omega⟩ c)) (frm ⟨i.val, by omega⟩ c))
  have e : ∀ i : Fin 3, (arrived X0 X1 X2 ⟨i.val, by omega⟩ c : sProp 𝕄)
      = owns (c : Thread nD τ) (M4.slice (slotR i) (fun _ => rfl)) fullShare (fun j => slots W ((slotR i).emb j)) := fun i => by
    rw [slots_at W i, arrived_slot]
  iintro ⟨Ha, Hb, Hc⟩
  iexists slots W
  iapply (BIBase.Entails.trans (of_eq (big_three fun i => arrived X0 X1 X2 ⟨i.val, by omega⟩ c).symm) (BIBase.Entails.trans (big_mono fun i _ => of_eq (e i))
    (owns_of_rects (c : Thread nD τ) M4 fullShare slotR (fun _ _ => rfl) slot_disj slot_cover (slots W))))
  isplitl [Ha]; · iexact Ha
  isplitl [Hb]; · iexact Hb
  iexact Hc

theorem bits56 : ∀ c : Dev nD, bits 56 = (Finset.univ : Finset (Fin 3)).image (fun k => x3 (arrival c k))
    ∧ ∀ k l : Fin 3, x3 (arrival c k) = x3 (arrival c l) → k = l := by decide +kernel
theorem bits504 : (Finset.univ : Finset (Fin 18)) = bits 7 ∪ (insert 3 (insert 4 (insert 5 (insert 6 (insert 7 (insert 8
    ((Finset.univ : Finset (Fin 3 × Fin 3)).image fun p => fwd p.1 p.2))))))) := by decide +kernel
theorem fwd_inj : ∀ p q : Fin 3 × Fin 3, fwd p.1 p.2 = fwd q.1 q.2 → p = q := by decide +kernel
theorem bits_all : bits 262087 = insert 0 (insert 1 (insert 2 (bits 262080))) := by decide +kernel
theorem bits_from : (fromN 3 : Finset (Fin 18)) = bits 56 ∪ bits 262080 := by decide +kernel

omit [FloatOps F] in
theorem big_all (Φ : Fin 18 → sProp 𝕄) : bigSep Finset.univ Φ
    = iprop(bigSep (bits 7) Φ ∗ Φ 3 ∗ Φ 4 ∗ Φ 5 ∗ Φ 6 ∗ Φ 7 ∗ Φ 8 ∗ bigSep (Finset.univ : Finset (Fin 3 × Fin 3)) fun p => Φ (fwd p.1 p.2)) := by
  rw [bits504, bigSep_union (by decide +kernel), big_insert (by decide +kernel), big_insert (by decide +kernel), big_insert (by decide +kernel),
    big_insert (by decide +kernel), big_insert (by decide +kernel), big_insert (by decide +kernel), bigSep_image_of_injOn fun p _ q _ e => fwd_inj p q e]
  rfl

/-- The turns' transfers, back as the pieces passed on. -/
theorem turns_join (c : Dev nD) : (bigSep (Finset.univ : Finset (Fin 3 × Fin 3)) fun p => lent X0 X1 X2 (fwd p.1 p.2) c : sProp 𝕄)
    ⊢ bigSep (bits 56) fun x => arrived X0 X1 X2 x c := by
  rw [(bits56 c).1, bigSep_image_of_injOn fun k _ l _ e => (bits56 c).2 k l e, bigSep_univ_prod]
  refine big_mono fun k _ => ?_
  rw [big_three]
  exact (arrived_fwd X0 X1 X2 c k _ rfl).2

/-- Everything in hand at the end is the buffers whole again. -/
theorem end_join (c : Dev nD) : iprop(bigSep Finset.univ (fun x => lent X0 X1 X2 x c) ∗ bigSep (bits 262087) (fun x => arrived X0 X1 X2 x c)
      ∗ owns (c : Thread nD τ) (rowsM (ownRows c)) fullShare (rowsVal X0 (ownRows c) c))
    ⊢ (iprop(owns (c : Thread nD τ) M0 fullShare (X0 c) ∗ owns (c : Thread nD τ) M3 fullShare (outVal X0 X1 X2)
        ∗ ∃ X, owns (c : Thread nD τ) M4 fullShare X) : sProp 𝕄) := by
  iintro ⟨HL, HA, Ho⟩
  ihave HL := (of_eq (big_all fun x => lent X0 X1 X2 x c)) $$ HL
  icases HL with ⟨H7, H3, H4, H5, H6, Hs, H8, Ht⟩
  isplitl [Ho H7]
  · iapply (rows_split X0 X1 X2 c).2
    isplitl [Ho]; · iexact Ho
    iexact H7
  ihave Ht := (turns_join X0 X1 X2 c) $$ Ht
  ihave HA := (show bigSep (bits 262087) (fun x => arrived X0 X1 X2 x c) ⊢ (iprop(arrived X0 X1 X2 0 c ∗ arrived X0 X1 X2 1 c ∗ arrived X0 X1 X2 2 c
      ∗ bigSep (bits 262080) (fun x => arrived X0 X1 X2 x c)) : sProp 𝕄) from of_eq (by
    rw [bits_all, big_insert (by decide +kernel), big_insert (by decide +kernel), big_insert (by decide +kernel)])) $$ HA
  icases HA with ⟨Ha, Hb, Hc, HA⟩
  isplitr [Ha Hb Hc]
  · iapply (out_join X0 X1 X2 c)
    isplitr [Ht HA]
    · iapply (own_lents X0 X1 X2 c).2
      isplitl [H3]; · iexact H3
      isplitl [H4]; · iexact H4
      isplitl [H5]; · iexact H5
      isplitl [H6]; · iexact H6
      isplitl [Hs]; · iexact Hs
      iexact H8
    · iapply (show iprop(bigSep (bits 56) (fun x => arrived X0 X1 X2 x c) ∗ bigSep (bits 262080) (fun x => arrived X0 X1 X2 x c))
          ⊢ (bigSep (fromN 3) fun x => arrived X0 X1 X2 x c : sProp 𝕄) from of_eq (by rw [bits_from, bigSep_union (by decide +kernel)]; rfl))
      isplitl [Ht]; · iexact Ht
      iexact HA
  · iapply (slots_join X0 X1 X2 c)
    isplitl [Ha]; · iexact Ha
    isplitl [Hb]; · iexact Hb
    iexact Hc

end Cert.Proof
-- ==== Proof.Region.lean ====
/-
  THE KERNEL REGION: what a device brings from the launch, the cells it opens on entry and closes before the return, and the
  region's record between the buffers before it and after it.
-/
module

public import proofs.«01_k».proof.Proof.Pieces
public import proofs.«01_k».proof.Proof.Gen.KernelIdeal.Regions
public import proofs.«01_k».proof.Proof.Gen.KernelIdeal.Points
public import Idealize.ShloMosaic.Lib.Pipeline.Frame
public import Idealize.ShloMosaic.Lib.Pipeline.Regions
public import Idealize.ShloMosaic.Lib.Pipeline.RegionTalk
public import Idealize.ShloMosaic.Lib.Pipeline.RegionArrays

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

section Ghost

variable (X0 : Dev nD → S128x512.Idx → Elt F .f32) (X1 : Dev nD → S32x512.Idx → Elt F .f32) (X2 : Dev nD → S1x512.Idx → Elt F .f32)

/-! ### The kernel's own cells -/

/-- The kernel's own semaphores: the departure and the arrival of every transfer. -/
def osem (p : Fin 2 × Fin 18) : SemLoc sig := .dma (if p.1 = 0 then sndS p.2 else rcvS p.2)

theorem osem_facts : Pipeline.OwnSemFacts spec0 osem := by decide +kernel

theorem ownSems_eq (c : Dev nD) : (Pipeline.ownSems0 osem c : sProp 𝕄)
    = iprop(bigSep Finset.univ (fun x : Fin 18 => semVal (sndCell x c) 0) ∗ bigSep Finset.univ (fun x : Fin 18 => semVal (rcvCell x c) 0)) := by
  unfold Pipeline.ownSems0
  rw [bigSep_univ_prod, bigSep_fin_two]
  rfl

/-- What a device carries from the launch: every cell's invariant, its position at its barrier cell, the right to open its
    transfers' cells, and the tokens it pays with. -/
def ghost (K : GSem nD τ sig → ℕ) (c : Dev nD) : sProp 𝕄 :=
  iprop(cells X0 X1 X2 K ∗ atPos ER (barCell c) 0 (∅ : Finset (Fin 6)) 0
    ∗ bigSep Finset.univ (fun x : Fin 18 => openTok ER (sndCell x c)) ∗ bigSep Finset.univ (fun x : Fin 18 => openTok ER (rcvCell x c))
    ∗ bigSep Finset.univ (fun i : Fin 6 => iprop(dutyTok ER (barCell (peer i c)) 0 (back i) ∗ reached ER (barCell (peer i c)) 0))
    ∗ bigSep Finset.univ (fun x : Fin 18 => iprop(dutyTok ER (sndCell x c) 0 (0 : Fin 6) ∗ dutyTok ER (rcvCell x (tgt x c)) 0 (0 : Fin 6))))

/-- The credits it waits with. -/
def creds (c : Dev nD) : sProp 𝕄 :=
  iprop(cred (tallyAt (barCell c) () 6) ∗ bigSep Finset.univ (fun x : Fin 18 => cred (tallyAt (rcvCell x c) () N)))

def Tk (c : Dev nD) : sProp 𝕄 := iprop((∃ K, ghost X0 X1 X2 K c) ∗ creds (F := F) c)

/-- With its transfers' cells open. -/
def opened (K : GSem nD τ sig → ℕ) (c : Dev nD) : sProp 𝕄 :=
  iprop(cells X0 X1 X2 K ∗ atPos ER (barCell c) 0 (∅ : Finset (Fin 6)) 0
    ∗ bigSep Finset.univ (fun x : Fin 18 => iprop(atPos ER (sndCell x c) 0 (∅ : Finset (Fin 6)) 0 ∗ reached ER (sndCell x c) 0))
    ∗ bigSep Finset.univ (fun x : Fin 18 => iprop(atPos ER (rcvCell x c) 0 (∅ : Finset (Fin 6)) 0 ∗ reached ER (rcvCell x c) 0))
    ∗ bigSep Finset.univ (fun i : Fin 6 => iprop(dutyTok ER (barCell (peer i c)) 0 (back i) ∗ reached ER (barCell (peer i c)) 0))
    ∗ bigSep Finset.univ (fun x : Fin 18 => iprop(dutyTok ER (sndCell x c) 0 (0 : Fin 6) ∗ dutyTok ER (rcvCell x (tgt x c)) 0 (0 : Fin 6))))

def Xk (c : Dev nD) : sProp 𝕄 := iprop((∃ K, opened X0 X1 X2 K c) ∗ creds (F := F) c ∗ levAts L lv)

variable {K : GSem nD τ sig → ℕ} {c : Dev nD}

theorem open_snd : iprop(cells X0 X1 X2 K ∗ bigSep Finset.univ (fun x : Fin 18 => openTok ER (sndCell x c)) ∗ bigSep Finset.univ (fun x : Fin 18 => semVal (sndCell x c) 0))
    ⊢ (|={Set.univ}=> bigSep Finset.univ (fun x : Fin 18 => iprop(atPos ER (sndCell x c) 0 (∅ : Finset (Fin 6)) 0 ∗ reached ER (sndCell x c) 0)) : sProp 𝕄) := by
  rw [← bigSep_sep']
  refine BIBase.Entails.trans (bigSep_with_persistent (R := cells X0 X1 X2 K) fun x _ => ?_) (bigSep_fupd _ _)
  iintro ⟨#HC, Ho, Hv⟩
  iapply (Rounds.cell_open ER (Rd X0 X1 X2) (g := sndCell x c) (Set.mem_univ (K (sndCell x c))))
  isplitr; · iapply (cells_snd X0 X1 X2 K x c); iexact HC
  isplitl [Ho] <;> iassumption
theorem open_rcv : iprop(cells X0 X1 X2 K ∗ bigSep Finset.univ (fun x : Fin 18 => openTok ER (rcvCell x c)) ∗ bigSep Finset.univ (fun x : Fin 18 => semVal (rcvCell x c) 0))
    ⊢ (|={Set.univ}=> bigSep Finset.univ (fun x : Fin 18 => iprop(atPos ER (rcvCell x c) 0 (∅ : Finset (Fin 6)) 0 ∗ reached ER (rcvCell x c) 0)) : sProp 𝕄) := by
  rw [← bigSep_sep']
  refine BIBase.Entails.trans (bigSep_with_persistent (R := cells X0 X1 X2 K) fun x _ => ?_) (bigSep_fupd _ _)
  iintro ⟨#HC, Ho, Hv⟩
  iapply (Rounds.cell_open ER (Rd X0 X1 X2) (g := rcvCell x c) (Set.mem_univ (K (rcvCell x c))))
  isplitr; · iapply (cells_rcv X0 X1 X2 K x c); iexact HC
  isplitl [Ho] <;> iassumption
theorem close_snd : iprop(cells X0 X1 X2 K ∗ bigSep Finset.univ (done (F := F) c))
    ⊢ (|={Set.univ}=> bigSep Finset.univ (fun x : Fin 18 => semVal (sndCell x c) 0) : sProp 𝕄) := by
  refine BIBase.Entails.trans (bigSep_with_persistent (R := cells X0 X1 X2 K) fun x _ => ?_) (bigSep_fupd _ _)
  unfold done
  iintro ⟨#HC, Ha⟩
  iapply (Rounds.cell_close ER (Rd X0 X1 X2) (Set.mem_univ (K (sndCell x c))) id (duties_later X0 X1 X2 (sndCell x c)))
  isplitr; · iapply (cells_snd X0 X1 X2 K x c); iexact HC
  iexact Ha
theorem close_rcv : iprop(cells X0 X1 X2 K ∗ bigSep Finset.univ (come (F := F) c))
    ⊢ (|={Set.univ}=> bigSep Finset.univ (fun x : Fin 18 => semVal (rcvCell x c) 0) : sProp 𝕄) := by
  refine BIBase.Entails.trans (bigSep_with_persistent (R := cells X0 X1 X2 K) fun x _ => ?_) (bigSep_fupd _ _)
  unfold come
  iintro ⟨#HC, Ha⟩
  iapply (Rounds.cell_close ER (Rd X0 X1 X2) (Set.mem_univ (K (rcvCell x c))) id (duties_later X0 X1 X2 (rcvCell x c)))
  isplitr; · iapply (cells_rcv X0 X1 X2 K x c); iexact HC
  iexact Ha
theorem close_bar : iprop(cells X0 X1 X2 K ∗ atPos ER (barCell c) 1 (∅ : Finset (Fin 6)) 0)
    ⊢ (|={Set.univ}=> semVal (barCell c) 0 : sProp 𝕄) := by
  iintro ⟨#HC, Ha⟩
  iapply (Rounds.cell_close ER (Rd X0 X1 X2) (Set.mem_univ (K (barCell c))) id (duties_later X0 X1 X2 (barCell c)))
  isplitr; · iapply (cells_bar X0 X1 X2 K c); iexact HC
  iexact Ha

variable (c)

/-- On entry: the cells of the region's own semaphores are opened. -/
theorem hopen : iprop(Tk X0 X1 X2 c ∗ Pipeline.ownSems0 osem c ∗ levAts L lv) ⊢ (|={Set.univ}=> Xk X0 X1 X2 c : sProp 𝕄) := by
  rw [ownSems_eq]
  unfold Tk Xk ghost
  iintro ⟨⟨⟨%K, ⟨#HC, Hb, Hos, Hor, HB, HT⟩⟩, Hc⟩, ⟨Hs, Hr⟩, HL⟩
  imod (open_snd X0 X1 X2 (K := K) (c := c)) $$ [Hos Hs] with Hs
  · isplitr; · iexact HC
    isplitl [Hos] <;> iassumption
  imod (open_rcv X0 X1 X2 (K := K) (c := c)) $$ [Hor Hr] with Hr
  · isplitr; · iexact HC
    isplitl [Hor] <;> iassumption
  imodintro
  isplitl [Hb Hs Hr HB HT]
  · iexists K
    unfold opened
    isplitr; · iexact HC
    isplitl [Hb]; · iexact Hb
    isplitl [Hs]; · iexact Hs
    isplitl [Hr]; · iexact Hr
    isplitl [HB]; · iexact HB
    iexact HT
  isplitl [Hc]; · iexact Hc
  iexact HL

/-! ### The start of the body -/

theorem bars_intro : iprop(bigSep Finset.univ (fun i : Fin 6 => iprop(dutyTok ER (barCell (peer i c)) 0 (back i) ∗ reached ER (barCell (peer i c)) 0))
      ∗ bigSep Finset.univ (fun x : Fin 18 => iprop(land (F := F) x c ∗ reached ER (rcvCell x c) 0)))
    ⊢ (bigSep (fromN 0) (fun i : Fin 6 => iprop(dutyTok ER (barCell (peer i c)) 0 (back i) ∗ reached ER (barCell (peer i c)) 0
        ∗ barPay (F := F) (peer i c) (back i))) : sProp 𝕄) := by
  have hp : ∀ i : Fin 6, (barPay (F := F) (peer i c) (back i) : sProp 𝕄)
      = bigSep (Finset.univ.filter fun x => px x = back i) fun x => iprop(land (F := F) x c ∗ reached ER (rcvCell x c) 0) := fun i => by
    unfold barPay
    refine bigSep_congr fun x hx => ?_
    have e : tgt x (peer i c) = c := by
      show peer (px x) (peer i c) = c
      rw [(Finset.mem_filter.mp hx).2]; exact back_peer i c
    rw [e]
  have hu : (Finset.univ : Finset (Fin 6)) = Finset.univ.image px := by decide
  have hb : ∀ Φ : Fin 6 → sProp (MT nD τ sig Unit (Elt F) ℕ UU ℕ), bigSep Finset.univ Φ = bigSep Finset.univ (fun i => Φ (back i)) := fun Φ => by
    conv_lhs => rw [show (Finset.univ : Finset (Fin 6)) = Finset.univ.image back from by decide]
    exact bigSep_image_of_injOn (show Function.Injective back from by decide).injOn _
  rw [bigSep_fiberwise (Finset.univ : Finset (Fin 18)) px, ← hu, hb (fun j => bigSep (Finset.univ.filter fun i => px i = j) _), ← bigSep_sep',
    show (fromN 0 : Finset (Fin 6)) = Finset.univ from by decide]
  refine big_mono fun i _ => ?_
  rw [hp]
  iintro ⟨⟨H1, H2⟩, H3⟩
  isplitl [H1]; · iexact H1
  isplitl [H2]; · iexact H2
  iexact H3

theorem toks_intro : iprop(bigSep Finset.univ (fun x : Fin 18 => iprop(atPos ER (sndCell x c) 0 (∅ : Finset (Fin 6)) 0 ∗ reached ER (sndCell x c) 0))
      ∗ bigSep Finset.univ (fun x : Fin 18 => iprop(dutyTok ER (sndCell x c) 0 (0 : Fin 6) ∗ dutyTok ER (rcvCell x (tgt x c)) 0 (0 : Fin 6))))
    ⊢ (bigSep Finset.univ (fun x : Fin 18 => iprop(dutyTok ER (sndCell x c) 0 (0 : Fin 6) ∗ reached ER (sndCell x c) 0
        ∗ dutyTok ER (rcvCell x (tgt x c)) 0 (0 : Fin 6) ∗ atPos ER (sndCell x c) 0 (∅ : Finset (Fin 6)) 0)) : sProp 𝕄) := by
  rw [← bigSep_sep']
  refine big_mono fun x _ => ?_
  iintro ⟨⟨H1, H2⟩, H3, H4⟩
  isplitl [H3]; · iexact H3
  isplitl [H2]; · iexact H2
  isplitl [H4]; · iexact H4
  iexact H1

theorem pend_intro : iprop(bigSep Finset.univ (fun x : Fin 18 => iprop(atPos ER (rcvCell x c) 0 (∅ : Finset (Fin 6)) 0 ∗ reached ER (rcvCell x c) 0))
      ∗ bigSep Finset.univ (fun x : Fin 18 => cred (tallyAt (rcvCell x c) () N)) ∗ bigSep Finset.univ (fun x : Fin 18 => land (F := F) x c))
    ⊢ (iprop(bigSep Finset.univ (pend (F := F) c) ∗ bigSep Finset.univ (fun x : Fin 18 => iprop(land (F := F) x c ∗ reached ER (rcvCell x c) 0))) : sProp 𝕄) := by
  rw [← bigSep_sep', ← bigSep_sep', ← bigSep_sep']
  refine big_mono fun x _ => ?_
  unfold pend
  iintro ⟨⟨H1, H2⟩, H3, H4⟩
  isplitl [H1 H3]
  · isplitl [H3] <;> iassumption
  isplitl [H4] <;> iassumption

/-- The opened cells, the staged inputs and the other buffers at contents not chosen are what the body starts from. -/
theorem start_intro (X3 : S512x512.Idx → Elt F .f32) (X4 : S3x32x512.Idx → Elt F .f32) (W : Waits sig Unit) :
    iprop(Xk X0 X1 X2 c ∗ owes (c : Thread nD τ) (O₀ c) W ∗ owns (c : Thread nD τ) M0 fullShare (X0 c) ∗ owns (c : Thread nD τ) M1 fullShare (X1 c)
      ∗ owns (c : Thread nD τ) M2 fullShare (X2 c) ∗ owns (c : Thread nD τ) M3 fullShare X3 ∗ owns (c : Thread nD τ) M4 fullShare X4)
    ⊢ (iprop(∃ K, Start X0 X1 X2 K c) : sProp 𝕄) := by
  unfold Xk opened creds
  iintro ⟨⟨⟨%K, ⟨#HC, Hb, Hs, Hr, HB, HT⟩⟩, ⟨Hcb, Hcr⟩, #HL⟩, HO, H0, H1, H2, H3, H4⟩
  ihave H := (lands_intro c X3 X4) $$ [H3 H4]
  · isplitl [H3] <;> iassumption
  icases H with ⟨Ho, Hl⟩
  ihave H := (pend_intro c) $$ [Hr Hcr Hl]
  · isplitl [Hr]; · iexact Hr
    isplitl [Hcr] <;> iassumption
  icases H with ⟨Hp, Hl⟩
  ihave HB := (bars_intro c) $$ [HB Hl]
  · isplitl [HB] <;> iassumption
  ihave HT := (toks_intro c) $$ [Hs HT]
  · isplitl [Hs] <;> iassumption
  ihave H0 := (rows_split X0 X1 X2 c).1 $$ H0
  icases H0 with ⟨H0, Hlent⟩
  iexists K
  unfold Start Bar Held Inputs
  isplitl [HO HB]
  · isplitr; · iexact HC
    isplitl [HO]; · iexists W; iexact HO
    iexact HB
  isplitl [HT Hp Hlent]
  · isplitr; · iexact HL
    isplitl [HT]; · iexact HT
    isplitl [Hp]; · iexact Hp
    iexact Hlent
  isplitl [Hcb]; · iexact Hcb
  isplitl [Hb]; · iexact Hb
  isplitl [H0 H1 H2]
  · isplitl [H0]; · iexact H0
    isplitl [H1] <;> iassumption
  iexact Ho

/-- What the body ends with is the closed cells and the buffers whole, the result at what every device finishes. -/
theorem end_elim (K : GSem nD τ sig → ℕ) : End X0 X1 X2 K c
    ⊢ (|={Set.univ}=> iprop((semVal (barCell c) 0 ∗ Pipeline.ownSems0 osem c ∗ ∃ W, owes (c : Thread nD τ) (0 : CellTallies nD τ sig Unit) W)
        ∗ owns (c : Thread nD τ) M0 fullShare (X0 c) ∗ owns (c : Thread nD τ) M1 fullShare (X1 c) ∗ owns (c : Thread nD τ) M2 fullShare (X2 c)
        ∗ owns (c : Thread nD τ) M3 fullShare (outVal X0 X1 X2) ∗ ∃ X, owns (c : Thread nD τ) M4 fullShare X) : sProp 𝕄) := by
  unfold End St Inputs
  rw [ownSems_eq, owedT_end, show (below 18 : Finset (Fin 18)) = Finset.univ from by decide, show bits (262143 - 0) = Finset.univ from by decide +kernel]
  iintro ⟨⟨#HC, -, HO, -, -, Hd, -, Hc, HL, HA⟩, ⟨H0, H1, H2⟩, Hb⟩
  imod (close_bar X0 X1 X2 (K := K) (c := c)) $$ [Hb] with Hb
  · isplitr; · iexact HC
    iexact Hb
  imod (close_snd X0 X1 X2 (K := K) (c := c)) $$ [Hd] with Hd
  · isplitr; · iexact HC
    iexact Hd
  imod (close_rcv X0 X1 X2 (K := K) (c := c)) $$ [Hc] with Hc
  · isplitr; · iexact HC
    iexact Hc
  imodintro
  ihave H := (end_join X0 X1 X2 c) $$ [HL HA H0]
  · isplitl [HL]; · iexact HL
    isplitl [HA] <;> iassumption
  icases H with ⟨H0, H3, H4⟩
  isplitl [Hb Hd Hc HO]
  · isplitl [Hb]; · iexact Hb
    isplitl [Hd Hc]
    · isplitl [Hd] <;> iassumption
    iexact HO
  isplitl [H0]; · iexact H0
  isplitl [H1]; · iexact H1
  isplitl [H2]; · iexact H2
  isplitl [H3]; · iexact H3
  iexact H4

/-- The body from the region's entry state to its exit state. -/
theorem kernel_run (X3 : S512x512.Idx → Elt F .f32) (X4 : S3x32x512.Idx → Elt F .f32) (W : Waits sig Unit)
    (Kt : PUnit → sProp (MT nD τ sig Unit (Elt F) ℕ UU ℕ)) (h0 h1 h2 h3 h4) :
    iprop((Xk X0 X1 X2 c ∗ owes (c : Thread nD τ) (O₀ c) W ∗ owns (c : Thread nD τ) M0 fullShare (X0 c) ∗ owns (c : Thread nD τ) M1 fullShare (X1 c)
        ∗ owns (c : Thread nD τ) M2 fullShare (X2 c) ∗ owns (c : Thread nD τ) M3 fullShare X3 ∗ owns (c : Thread nD τ) M4 fullShare X4)
      ∗ (((semVal (barCell c) 0 ∗ Pipeline.ownSems0 osem c ∗ ∃ W, owes (c : Thread nD τ) (0 : CellTallies nD τ sig Unit) W)
        ∗ owns (c : Thread nD τ) M0 fullShare (X0 c) ∗ owns (c : Thread nD τ) M1 fullShare (X1 c) ∗ owns (c : Thread nD τ) M2 fullShare (X2 c)
        ∗ owns (c : Thread nD τ) M3 fullShare (outVal X0 X1 X2) ∗ ∃ X, owns (c : Thread nD τ) M4 fullShare X) -∗ Kt ⟨⟩))
      ⊢ wp frame (wpE (defs₀ (F := F)) 𝒱₀ (c : Thread nD τ) none) Set.univ
        (cc0_body M0 h0 M1 h1 M2 h2 M3 h3 M4 h4 cc0_scratch1 cc0_scratch2 cc0_scratch3 cc0_scratch4 cc0_scratch5 cc0_scratch6) Kt := by
  iintro ⟨H, Hk⟩
  ihave H := (start_intro X0 X1 X2 c X3 X4 W) $$ H
  icases H with ⟨%K, H⟩
  iapply (wp_fupd)
  iapply (body_run X0 X1 X2 (K := K) (c := c) _ h0 h1 h2 h3 h4)
  isplitl [H]; · iexact H
  iintro H
  imod (end_elim X0 X1 X2 c K) $$ H with H
  imodintro
  iapply Hk
  iexact H

end Ghost

end Cert.Proof
-- ==== Proof.Segment.lean ====
/-
  THE REGION'S RECORD: what the pipeline's staging buffers hold before and after the body, and the segment of the program
  between the buffers before the kernel and after it.
-/
module

public import proofs.«01_k».proof.Proof.Region

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

-- The contents of every buffer at the region's entry.
variable (W : Dev nD → Valuation τ sig (Elt F))

/-- The staged inputs: the rows of the partial, the rows of the residual, and the scale. -/
def in0 (c : Dev nD) : S128x512.Idx → Elt F .f32 := W c (Proc.devRef .tc main_v21)
def in1 (c : Dev nD) : S32x512.Idx → Elt F .f32 := W c (Proc.devRef .tc main_v27)
def in2 (c : Dev nD) : S1x512.Idx → Elt F .f32 := W c (Proc.devRef .tc main_v2)

/-- What every device's result ends at. -/
def res : S512x512.Idx → Elt F .f32 := outVal (in0 W) (in1 W) (in2 W)

/-- The contents after the region: the result's buffer changed, no other. -/
def after0 (c : Dev nD) : Valuation τ sig (Elt F) := Function.update (W c) (Proc.devRef .tc main_v28) (res W)

def dat (c : Dev nD) : Dat τ (Elt F) Unit ℕ UU ℕ cfg0 c where
  A w := W c (Proc.devRef .tc (Pipeline.arrRef spec0 w))
  after w _ := match w with
    | 0 => in0 W c
    | 1 => in1 W c
    | 2 => in2 W c
    | 3 => res W
    | ⟨_ + 4, h⟩ => absurd h (Nat.not_lt.2 (Nat.le_add_left _ _))
  Φ t := if t.val = 0
    then iprop(Xk (in0 W) (in1 W) (in2 W) c ∗ (∃ f : Buf (Elt F) ((c : Thread nD τ).loc cc0_scratch0), ((c : Thread nD τ).loc cc0_scratch0) ↦{fullShare} f) ∗ ∃ r, prngReg c r)
    else iprop((semVal (barCell c) 0 ∗ Pipeline.ownSems0 osem c) ∗ (∃ f : Buf (Elt F) ((c : Thread nD τ).loc cc0_scratch0), ((c : Thread nD τ).loc cc0_scratch0) ↦{fullShare} f) ∗ ∃ r, prngReg c r)
  q _ := fullShare
  owed t := if t.val = 0 then O₀ c else 0

def pdats : (p : Fin 1) → (c : Dev nD) → Dat τ (Elt F) Unit ℕ UU ℕ (cfgs p) c
  | 0 => dat W
  | ⟨_ + 1, h⟩ => absurd h (Nat.not_lt.2 (Nat.le_add_left _ _))

theorem owed_first (c : Dev nD) : (dat W c).owed t0_0.castSucc = O₀ c := by
  show (if (t0_0.castSucc : Fin (cfg0.N + 1)).val = 0 then O₀ c else 0) = O₀ c; exact if_pos rfl
theorem owed_last (c : Dev nD) : (dat W c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig Unit) (h0 : (dat W c).owed t = O) (Wt : Waits sig Unit) :
    (owes (c : Thread nD τ) O Wt : sProp 𝕄) ⊢ ((dat W c).owesAt () t : sProp 𝕄) := by
  unfold Dat.owesAt Pipeline.owesWithin Dat.bound
  rw [h0, show (dat W c).recorded t = Set.univ from rfl]
  iintro HO; iexists Wt; isplitr; · ipureintro; exact fun _ _ => Or.inl trivial
  iexact HO
theorem owesAt_elim (c : Dev nD) (t : Fin (cfg0.N + 1)) (O : CellTallies nD τ sig Unit) (h0 : (dat W c).owed t = O) :
    ((dat W c).owesAt () t : sProp 𝕄) ⊢ iprop(∃ Wt, owes (c : Thread nD τ) O Wt) := by
  unfold Dat.owesAt Pipeline.owesWithin; rw [h0]
  iintro ⟨%Wt, -, HO⟩; iexists Wt; iexact HO

/-- Reading a window's one block reads its array. -/
theorem read_whole0 (f : main_v21.ty.Contents (Elt F)) : (win0_0.blk t0_0).view.read (Elt F) f = f :=
  Memref.read_access_unit_zero (Elt F) main_v21 (funext fun a => by fin_cases a <;> decide) (fun a => by fin_cases a <;> decide) f
theorem read_whole1 (f : main_v27.ty.Contents (Elt F)) : (win0_1.blk t0_0).view.read (Elt F) f = f :=
  Memref.read_access_unit_zero (Elt F) main_v27 (funext fun a => by fin_cases a <;> decide) (fun a => by fin_cases a <;> decide) f
theorem read_whole2 (f : main_v2.ty.Contents (Elt F)) : (win0_2.blk t0_0).view.read (Elt F) f = f :=
  Memref.read_access_unit_zero (Elt F) main_v2 (funext fun a => by fin_cases a <;> decide) (fun a => by fin_cases a <;> decide) f
theorem read_whole3 (f : main_v28.ty.Contents (Elt F)) : (win0_3.blk t0_0).view.read (Elt F) f = f :=
  Memref.read_access_unit_zero (Elt F) main_v28 (funext fun a => by fin_cases a <;> decide) (fun a => by fin_cases a <;> decide) f

theorem before0 (c : Dev nD) (d) : (dat W c).before 0 t0_0 d = in0 W c := by
  unfold Dat.before; rw [if_pos (show (cfg0.win 0).fetch t0_0 = true from by decide +kernel)]
  exact read_whole0 (F := F) _
theorem before1 (c : Dev nD) (d) : (dat W c).before 1 t0_0 d = in1 W c := by
  unfold Dat.before; rw [if_pos (show (cfg0.win 1).fetch t0_0 = true from by decide +kernel)]
  exact read_whole1 (F := F) _
theorem before2 (c : Dev nD) (d) : (dat W c).before 2 t0_0 d = in2 W c := by
  unfold Dat.before; rw [if_pos (show (cfg0.win 2).fetch t0_0 = true from by decide +kernel)]
  exact read_whole2 (F := F) _

set_option maxHeartbeats 1600000 in
theorem body_obl (c : Dev nD) : BodyObligation (dat W c) (defs₀ (F := F)) 𝒱₀ () Set.univ := fun t => by
  obtain rfl := fin_N0 t
  rw [bigSep_W0, bigSep_W0]
  rw [show (dat W c).Φ t0_0.castSucc = iprop(Xk (in0 W) (in1 W) (in2 W) c ∗ (∃ f : Buf (Elt F) ((c : Thread nD τ).loc cc0_scratch0), ((c : Thread nD τ).loc cc0_scratch0) ↦{fullShare} f) ∗ ∃ r, prngReg c r) from rfl,
    show (dat W c).Φ t0_0.succ = iprop((semVal (barCell c) 0 ∗ Pipeline.ownSems0 osem c) ∗ (∃ f : Buf (Elt F) ((c : Thread nD τ).loc cc0_scratch0), ((c : Thread nD τ).loc cc0_scratch0) ↦{fullShare} f) ∗ ∃ r, prngReg c r) from rfl]
  iintro ⟨⟨HX, ⟨%f, Hs⟩, Hreg⟩, HO, ⟨%d0, H0⟩, ⟨%d1, H1⟩, ⟨%d2, H2⟩, ⟨%d3, H3⟩⟩
  ihave HO' := (owesAt_elim W c _ (O₀ c) (owed_first W c)) $$ HO
  icases HO' with ⟨%Wt, HO⟩
  ihave H0 := (of_eq (congrArg (owns (c : Thread nD τ) M0 fullShare) (before0 W c d0))) $$ H0
  ihave H1 := (of_eq (congrArg (owns (c : Thread nD τ) M1 fullShare) (before1 W c d1))) $$ H1
  ihave H2 := (of_eq (congrArg (owns (c : Thread nD τ) M2 fullShare) (before2 W c d2))) $$ H2
  ihave Hs := (of_eq (owns_whole (Val := Elt F) (c : Thread nD τ) cc0_scratch0 fullShare f).symm) $$ Hs
  iapply (kernel_run (in0 W) (in1 W) (in2 W) c ((dat W c).before 3 t0_0 d3) f Wt)
  isplitl [HX HO H0 H1 H2 H3 Hs]
  · isplitl [HX]; · iexact HX
    isplitl [HO]; · iexact HO
    isplitl [H0]; · iexact H0
    isplitl [H1]; · iexact H1
    isplitl [H2]; · iexact H2
    isplitl [H3]; · iexact H3
    iexact Hs
  iintro ⟨⟨Hb, Hos, ⟨%Wt', HO⟩⟩, H0, H1, H2, H3, ⟨%f', Hs⟩⟩
  isplitl [Hb Hos Hs Hreg]
  · isplitl [Hb Hos]
    · isplitl [Hb] <;> iassumption
    isplitl [Hs]
    · iexists f'
      iapply (of_eq (owns_whole (Val := Elt F) (c : Thread nD τ) cc0_scratch0 fullShare f')) $$ Hs
    iexact Hreg
  isplitl [HO]; · iapply (owesAt_intro W c t0_0.succ 0 (owed_last W c) Wt'); iexact HO
  isplitl [H0]; · iexact H0
  isplitl [H1]; · iexact H1
  isplitl [H2]; · iexact H2
  iexact H3

/-! ### The arrays before and after -/

theorem arrAt_start (c : Dev nD) (w : Fin cfg0.W) : (dat W c).arrAt w 0 = W c (Proc.devRef .tc (Pipeline.arrRef spec0 w)) := rfl

theorem after0_of (c : Dev nD) (b : DevRef τ sig) (h : b ≠ Proc.devRef .tc main_v28) : after0 W c b = W c b := by
  unfold after0; exact Function.update_of_ne h _ _
theorem after0_out (c : Dev nD) : after0 W c (Proc.devRef .tc main_v28) = res W := by
  unfold after0; exact Function.update_self _ _ _

theorem arrAt_out (c : Dev nD) : (dat W c).arrAt 3 cfg0.N = res W := by
  have h : (win0_3.blk t0_0).view.read (Elt F) ((dat W c).arrAt 3 cfg0.N) = res W := by
    rw [show cfg0.N = t0_0.val + 1 from rfl, (dat W c).arrAt_succ 3 t0_0]
    rw [show (cfg0.win 3).flush t0_0 = true from by decide +kernel, if_pos rfl]
    exact View.read_write_univ _ _
  exact (read_whole3 (F := F) _).symm.trans h

theorem arrAt_end (c : Dev nD) (w : Fin cfg0.W) : (dat W c).arrAt w cfg0.N = after0 W c (Proc.devRef .tc (Pipeline.arrRef spec0 w)) :=
  match w with
  | 0 => ((dat W c).arrAt_in 0 rfl _).trans (after0_of W c _ (by decide)).symm
  | 1 => ((dat W c).arrAt_in 1 rfl _).trans (after0_of W c _ (by decide)).symm
  | 2 => ((dat W c).arrAt_in 2 rfl _).trans (after0_of W c _ (by decide)).symm
  | 3 => (arrAt_out W c).trans (after0_out W c).symm
  | ⟨_ + 4, h⟩ => absurd h (Nat.not_lt.2 (Nat.le_add_left _ _))

/-! ### The levels of the staging cells and of the dues -/

theorem lv_stage (c : Dev nD) (w : Fin cfg0.W) (s : Fin (cfg0.win w).nbuf) : lv ((c : Thread nD τ), .dma ((cfg0.win w).sem s)) () ≤ 0 := by
  have h : ∀ (w : Fin cfg0.W) (s : Fin (cfg0.win w).nbuf), lvS ((cfg0.win w).sem s) ≤ 0 := by decide +kernel
  exact h w s

theorem lv_rcv_pos (y : Fin 18) : 0 < lvS (rcvS y) := by
  unfold lvS; rw [useOf_rcv]; dsimp only; split <;> [decide; split <;> decide]

theorem owed_level (c : Dev nD) (t : Fin (cfg0.N + 1)) (g : GSem nD τ sig) (i : Unit) (h : 0 < (dat W c).owed t g i) : i ∈ L g ∧ 0 < lv g i := by
  have e : (dat W c).owed t = if t.val = 0 then O₀ c else 0 := rfl
  rw [e] at h
  split at h
  · unfold O₀ at h
    rw [Pi.add_apply, Finsupp.add_apply] at h
    rcases Nat.add_pos_iff_pos_or_pos.mp h with h | h
    · obtain ⟨x, -, rfl⟩ := sum_tally_pos _ (fun x => rcvCell x (tgt x c)) (fun _ => N) g i h
      exact ⟨by rw [L_tc]; exact Finset.mem_singleton_self _, lv_rcv_pos x⟩
    · obtain ⟨x, -, rfl⟩ := sum_tally_pos _ (fun x => barCell (peer x c)) (fun _ => 1) g i h
      exact ⟨by rw [L_tc]; exact Finset.mem_singleton_self _, Nat.one_pos⟩
  · exact absurd h (Nat.lt_irrefl 0)

/-! ### The segment -/

def Yk (c : Dev nD) : sProp 𝕄 := semVal (barCell c) 0

local notation "ℝ𝕊" => Pipeline.RegionSeg (pcfgs (F := F)) adm (pdats W) () (defs₀ (F := F)) 𝒱₀ L lv

theorem region_in (c : Dev nD) : iprop(Pipeline.scopedRest (Pipeline.pin (pcfgs (F := F)) adm 0).spec c ∗ (∃ r, prngReg c r)
      ∗ StableHlo.held (c.tc : Thread nD τ) ∅ (W c) ∗ Xk (in0 W) (in1 W) (in2 W) c)
    ⊢ ((pdats W 0 c).Φ 0 : sProp 𝕄) := by
  rw [show (pdats W 0 c).Φ 0 = iprop(Xk (in0 W) (in1 W) (in2 W) c ∗ (∃ f : Buf (Elt F) ((c : Thread nD τ).loc cc0_scratch0), ((c : Thread nD τ).loc cc0_scratch0) ↦{fullShare} f) ∗ ∃ r, prngReg c r) from rfl,
    show (Pipeline.scopedRest (Pipeline.pin (pcfgs (F := F)) adm 0).spec c : sProp 𝕄) = _ from scopedRest0_eq c]
  iintro ⟨Hs, Hp, -, HX⟩
  isplitl [HX]; · iexact HX
  isplitl [Hs]; · iexact Hs
  iexact Hp

theorem region_out (c : Dev nD) : (pdats W 0 c).Φ (Fin.last (Pipeline.pin (pcfgs (F := F)) adm 0).N)
    ⊢ (iprop(Pipeline.scopedRest (Pipeline.pin (pcfgs (F := F)) adm 0).spec c ∗ (∃ r, prngReg c r)
      ∗ StableHlo.held (c.tc : Thread nD τ) ∅ (after0 W c) ∗ Pipeline.ownSems0 osem c ∗ Yk c) : sProp 𝕄) := by
  rw [show (pdats W 0 c).Φ (Fin.last _) = iprop((semVal (barCell c) 0 ∗ Pipeline.ownSems0 osem c) ∗ (∃ f : Buf (Elt F) ((c : Thread nD τ).loc cc0_scratch0), ((c : Thread nD τ).loc cc0_scratch0) ↦{fullShare} f) ∗ ∃ r, prngReg c r) from rfl,
    show (Pipeline.scopedRest (Pipeline.pin (pcfgs (F := F)) adm 0).spec c : sProp 𝕄) = _ from scopedRest0_eq c,
    show (StableHlo.held (c.tc : Thread nD τ) ∅ (after0 W c) : sProp 𝕄) = BI.emp from BI.bigSep_empty]
  unfold Yk
  iintro ⟨⟨Hb, Hos⟩, Hs, Hp⟩
  isplitl [Hs]; · iexact Hs
  isplitl [Hp]; · iexact Hp
  isplitr; · iempintro
  isplitl [Hos]; · iexact Hos
  iexact Hb

/-- The buffers the region's windows do not read or write. -/
def others : Finset (DevRef τ sig) := Pipeline.ucRefs τ sig \ Pipeline.arrRefs (τ := τ) spec0

theorem out_mem : (Proc.devRef .tc main_v28 : DevRef τ sig) ∈ Pipeline.arrRefs (τ := τ) spec0 :=
  Finset.mem_map.mpr ⟨main_v28, Finset.mem_image.mpr ⟨3, Finset.mem_univ _, rfl⟩, rfl⟩

theorem others_keep (c : Dev nD) : ∀ b ∈ others \ (∅ : Finset (DevRef τ sig)), after0 W c b = W c b := fun b hb =>
  after0_of W c b fun e => (Finset.mem_sdiff.mp (Finset.mem_sdiff.mp hb).1).2 (e ▸ out_mem)

set_option backward.isDefEq.respectTransparency.types false in
def reg0 : ℝ𝕊 0 :=
  Pipeline.RegionSeg.ofTalk (pcfgs (F := F)) adm (pdats W) () (defs₀ (F := F)) 𝒱₀ L lv 0 osem osem_facts
    ∅ others (Finset.empty_subset _) launch0.toP rfl (fun c => (body_obl W c).loose)
    (fun _ => 0) O₀ (fun c => (owed_first W c).trans (zero_add _).symm) (fun c => owed_last W c) (fun _ => rfl)
    (fun c w => (dat W c).share_full (fun _ => rfl) w)
    W (after0 W) (others_keep W)
    (Tk (in0 W) (in1 W) (in2 W)) Yk (Xk (in0 W) (in1 W) (in2 W)) Yk (hopen (in0 W) (in1 W) (in2 W)) (region_in W) (region_out W)
    (fun c => by iintro H; imodintro; iexact H)
    (fun _ => 0)
    ⟨fun c w s => by rw [L_tc]; exact Finset.mem_singleton_self _, fun c w s => lv_stage c w s, fun c t g i h => owed_level W c t g i h⟩
    (fun _ => iprop(emp))
    (fun c w => arrAt_start W c w) (fun c w => arrAt_end W c w)

theorem arrs_sub : Pipeline.arrRefs (τ := τ) spec0 ⊆ Pipeline.ucRefs τ sig := Pipeline.arrRefs_sub_ucRefs spec0 (by decide)

/-- The launch's rest and the buffers make the region's entry. -/
theorem reg0_pre (c : Dev nD) : iprop(StableHlo.held (c : Thread nD τ) (Pipeline.ucRefs τ sig) (W c)
      ∗ ((∃ r, prngReg c r) ∗ Tk (in0 W) (in1 W) (in2 W) c ∗ ∃ Wt, owes (c : Thread nD τ) (O₀ c) Wt)) ⊢ (reg0 W).pre c := by
  show _ ⊢ iprop(StableHlo.held (c.tc : Thread nD τ) (Pipeline.arrRefs (τ := τ) spec0) (W c) ∗ (∃ r, prngReg c r)
    ∗ (StableHlo.held (c.tc : Thread nD τ) others (W c) ∗ emp) ∗ Tk (in0 W) (in1 W) (in2 W) c ∗ ∃ Wd, owes (c : Thread nD τ) (0 + O₀ c) Wd)
  rw [zero_add, StableHlo.held_sub_split (c : Thread nD τ) arrs_sub (W c)]
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

/-- And its exit the buffers, the result's changed, and the barrier's counter at zero. -/
theorem reg0_post (c : Dev nD) : (reg0 W).post c ⊢ iprop(StableHlo.held (c : Thread nD τ) (Pipeline.ucRefs τ sig) (after0 W c)
      ∗ (semVal (barCell c) 0 ∗ ∃ Wt, owes (c : Thread nD τ) (0 : CellTallies nD τ sig Unit) Wt)) := by
  show iprop(StableHlo.held (c.tc : Thread nD τ) (Pipeline.arrRefs (τ := τ) spec0) (after0 W c) ∗ (∃ r, prngReg c r)
    ∗ (StableHlo.held (c.tc : Thread nD τ) others (after0 W c) ∗ emp) ∗ semVal (barCell c) 0 ∗ ∃ Wd, owes (c : Thread nD τ) (0 : CellTallies nD τ sig Unit) Wd) ⊢ _
  rw [StableHlo.held_sub_split (c : Thread nD τ) arrs_sub (after0 W c)]
  iintro ⟨Ha, -, ⟨Hr, -⟩, Hb, HO⟩
  isplitl [Ha Hr]
  · isplitl [Ha]; · iexact Ha
    iexact Hr
  isplitl [Hb]; · iexact Hb
  iexact HO

end Cert.Proof
-- ==== Proof.Launch.lean ====
/-
  THE LAUNCH: every cell's invariant funded, the tokens and credits handed to the devices that use them, and the run of the
  whole program.
-/
module

public import proofs.«01_k».proof.Proof.Segment
public import Idealize.ShloMosaic.Harness.Basic

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg BodyObligation cellOf)

variable {F : FTy → Type} [FloatOps F]

local notation "𝕄" => MT nD τ sig Unit (Elt F) ℕ UU ℕ

/-! ### Cells and tokens -/

theorem osem_inj : Function.Injective osem := by decide +kernel
theorem osem_dma (k : Fin 2 × Fin 18) : osem k ≠ .reg barS := fun h => by cases h

def barEmb : Dev nD ↪ GSem nD τ sig := ⟨fun c => barCell c, fun _ _ h => congrArg (fun g : GSem nD τ sig => g.1.1) h⟩
def ownEmb : Dev nD × (Fin 2 × Fin 18) ↪ GSem nD τ sig :=
  ⟨fun p => ((p.1 : Thread nD τ), osem p.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem disjoint_cells : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_dma p.2 (congrArg Prod.snd h)

def barTokEmb : Dev nD × Fin 6 ↪ GSem nD τ sig × ℕ × Fin 6 :=
  ⟨fun p => (barCell p.1, 0, p.2), fun _ _ h =>
    Prod.ext (congrArg (fun t : GSem nD τ sig × ℕ × Fin 6 => t.1.1.1) h) (congrArg (fun t : GSem nD τ sig × ℕ × Fin 6 => t.2.2) h)⟩
def ownTokEmb : Dev nD × (Fin 2 × Fin 18) ↪ GSem nD τ sig × ℕ × Fin 6 :=
  ⟨fun p => (ownEmb p, 0, 0), fun _ _ h => ownEmb.injective (congrArg Prod.fst h)⟩

def toks : Finset (GSem nD τ sig × ℕ × Fin 6) := Finset.univ.map barTokEmb ∪ Finset.univ.map ownTokEmb

theorem disjoint_toks : Disjoint ((Finset.univ : Finset (Dev nD × Fin 6)).map barTokEmb) (Finset.univ.map ownTokEmb) := by
  rw [Finset.disjoint_left]
  rintro g h₁ h₂
  obtain ⟨c, -, rfl⟩ := Finset.mem_map.mp h₁
  obtain ⟨p, -, h⟩ := Finset.mem_map.mp h₂
  exact osem_dma p.2 (congrArg (fun t : GSem nD τ sig × ℕ × Fin 6 => t.1.2) h)

/-- A family over the kernel's own cells, by device and transfer. -/
theorem own_eq (Φ : GSem nD τ sig → sProp (MT nD τ sig Unit (Elt F) ℕ UU ℕ)) : bigSep (Finset.univ : Finset (Dev nD × (Fin 2 × Fin 18))) (fun p => Φ (ownEmb p))
    = bigSep Finset.univ fun c : Dev nD => iprop(bigSep Finset.univ (fun x : Fin 18 => Φ (sndCell x c)) ∗ bigSep Finset.univ (fun x : Fin 18 => Φ (rcvCell x c))) := by
  rw [bigSep_univ_prod]
  refine bigSep_congr fun c _ => ?_
  rw [bigSep_univ_prod, bigSep_fin_two]
  rfl

theorem big_pair {α : Type} [DecidableEq α] {S : Finset α} {Φ Ψ : α → sProp (MT nD τ sig Unit (Elt F) ℕ UU ℕ)} : iprop(bigSep S Φ ∗ bigSep S Ψ) ⊢ bigSep S (fun a => iprop(Φ a ∗ Ψ a)) :=
  Entails.of_eq (bigSep_sep' _ _ _).symm

/-- Two indices of one family exchanged. -/
theorem big_swap {α β : Type} [Fintype α] [Fintype β] [DecidableEq α] [DecidableEq β] (Φ : α → β → sProp (MT nD τ sig Unit (Elt F) ℕ UU ℕ)) :
    bigSep Finset.univ (fun a => bigSep Finset.univ (fun b => Φ a b)) = bigSep Finset.univ (fun p : β × α => Φ p.2 p.1) := by
  rw [bigSep_univ_equiv (Equiv.prodComm α β) (fun p : β × α => Φ p.2 p.1)]
  exact (bigSep_univ_prod (fun p : α × β => Φ p.1 p.2)).symm

theorem toks_eq : (bigSep toks (fun t => dutyTok ER t.1 t.2.1 t.2.2) : sProp 𝕄)
    = iprop(bigSep Finset.univ (fun c : Dev nD => bigSep Finset.univ fun i : Fin 6 => dutyTok ER (barCell c) 0 i)
      ∗ bigSep Finset.univ (fun c : Dev nD => iprop(bigSep Finset.univ (fun x : Fin 18 => dutyTok ER (sndCell x c) 0 (0 : Fin 6))
        ∗ bigSep Finset.univ (fun x : Fin 18 => dutyTok ER (rcvCell x c) 0 (0 : Fin 6))))) := by
  unfold toks
  rw [bigSep_union disjoint_toks, bigSep_map, bigSep_map, ← own_eq (fun g => dutyTok ER g 0 (0 : Fin 6)), bigSep_univ_prod]
  rfl

/-- Each barrier token to the peer that pays it. -/
def turnBar : Dev nD × Fin 6 ≃ Dev nD × Fin 6 where
  toFun p := (peer p.2 p.1, back p.2)
  invFun p := (peer p.2 p.1, back p.2)
  left_inv p := Prod.ext (back_peer p.2 p.1) (back_back p.2)
  right_inv p := Prod.ext (back_peer p.2 p.1) (back_back p.2)
/-- Each arrival's token to the device the transfer comes from. -/
def turnRcv : Dev nD × Fin 18 ≃ Dev nD × Fin 18 where
  toFun p := (tgt p.2 p.1, p.2)
  invFun p := (frm p.2 p.1, p.2)
  left_inv p := Prod.ext (frm_tgt p.2 p.1) rfl
  right_inv p := Prod.ext (tgt_frm p.2 p.1) rfl

theorem bar_around : (bigSep Finset.univ (fun c : Dev nD => bigSep Finset.univ fun i : Fin 6 => dutyTok ER (barCell c) 0 i) : sProp 𝕄)
    = bigSep Finset.univ (fun c : Dev nD => bigSep Finset.univ fun i : Fin 6 => dutyTok ER (barCell (peer i c)) 0 (back i)) := by
  refine (bigSep_univ_prod (fun p : Dev nD × Fin 6 => (dutyTok ER (barCell p.1) 0 p.2 : sProp 𝕄))).symm.trans ?_
  rw [bigSep_univ_equiv turnBar]
  exact bigSep_univ_prod (fun p : Dev nD × Fin 6 => (dutyTok ER (barCell (peer p.2 p.1)) 0 (back p.2) : sProp 𝕄))
theorem rcv_around : (bigSep Finset.univ (fun c : Dev nD => bigSep Finset.univ fun x : Fin 18 => dutyTok ER (rcvCell x c) 0 (0 : Fin 6)) : sProp 𝕄)
    = bigSep Finset.univ (fun c : Dev nD => bigSep Finset.univ fun x : Fin 18 => dutyTok ER (rcvCell x (tgt x c)) 0 (0 : Fin 6)) := by
  refine (bigSep_univ_prod (fun p : Dev nD × Fin 18 => (dutyTok ER (rcvCell p.2 p.1) 0 (0 : Fin 6) : sProp 𝕄))).symm.trans ?_
  rw [bigSep_univ_equiv turnRcv]
  exact bigSep_univ_prod (fun p : Dev nD × Fin 18 => (dutyTok ER (rcvCell p.2 (tgt p.2 p.1)) 0 (0 : Fin 6) : sProp 𝕄))

/-! ### The launch credit -/

theorem sum_tally (S : Finset (Fin 6)) (cell : Fin 6 → GSem nD τ sig) (k : ℕ) (g : GSem nD τ sig) :
    (∑ x ∈ S, (tallyAt (cell x) () k : CellTallies nD τ sig Unit)) g () = ∑ x ∈ S, if g = cell x then k else 0 := by
  classical
  induction S using Finset.induction_on with
  | empty => rfl
  | insert a S ha ih =>
    rw [Finset.sum_insert ha, Finset.sum_insert ha, Pi.add_apply, Finsupp.add_apply, tallyAt_apply, ih]
    congr 1
    exact if_congr (by simp) rfl rfl
theorem sum_tally' (S : Finset (Fin 18)) (cell : Fin 18 → GSem nD τ sig) (k : ℕ) (g : GSem nD τ sig) :
    (∑ x ∈ S, (tallyAt (cell x) () k : CellTallies nD τ sig Unit)) g () = ∑ x ∈ S, if g = cell x then k else 0 := by
  classical
  induction S using Finset.induction_on with
  | empty => rfl
  | insert a S ha ih =>
    rw [Finset.sum_insert ha, Finset.sum_insert ha, Pi.add_apply, Finsupp.add_apply, tallyAt_apply, ih]
    congr 1
    exact if_congr (by simp) rfl rfl

theorem bar_eq_iff (c d : Dev nD) : barCell c = barCell d ↔ c = d := ⟨fun h => barEmb.injective h, congrArg _⟩
theorem rcv_eq_iff (x y : Fin 18) (c d : Dev nD) : rcvCell x c = rcvCell y d ↔ x = y ∧ c = d :=
  ⟨fun h => ⟨rcv_inj (SemLoc.dma.inj (congrArg Prod.snd h)), congrArg (fun g : GSem nD τ sig => g.1.1) h⟩, fun ⟨h, h'⟩ => by rw [h, h']⟩
theorem rcv_ne_bar (x : Fin 18) (c d : Dev nD) : rcvCell x c ≠ barCell d := fun h => by cases congrArg Prod.snd h

theorem O₀_bar (d c : Dev nD) : O₀ d (barCell c) () = ∑ i : Fin 6, if c = peer i d then 1 else 0 := by
  unfold O₀ owedT owedB
  rw [Pi.add_apply, Finsupp.add_apply, sum_tally', sum_tally, show (fromN 0 : Finset (Fin 6)) = Finset.univ from by decide,
    Finset.sum_eq_zero (fun x _ => if_neg (rcv_ne_bar x _ _).symm), Nat.zero_add]
  exact Finset.sum_congr rfl fun i _ => if_congr (bar_eq_iff _ _) rfl rfl
theorem O₀_rcv (d c : Dev nD) (x : Fin 18) : O₀ d (rcvCell x c) () = if d = frm x c then N else 0 := by
  unfold O₀ owedT owedB
  rw [Pi.add_apply, Finsupp.add_apply, sum_tally', sum_tally, show (fromN 0 : Finset (Fin 18)) = Finset.univ from by decide,
    Finset.sum_eq_zero (s := (fromN 0 : Finset (Fin 6))) (fun i _ => if_neg (rcv_ne_bar x _ _)), Nat.add_zero,
    Finset.sum_eq_single x (fun y _ h => if_neg fun e => h ((rcv_eq_iff _ _ _ _).mp e).1.symm) (fun h => absurd (Finset.mem_univ _) h)]
  refine if_congr ⟨fun e => ?_, fun e => ?_⟩ rfl rfl
  · rw [((rcv_eq_iff _ _ _ _).mp e).2, frm_tgt]
  · rw [e, tgt_frm]

theorem launch_bar (c : Dev nD) :
    tallyOn (barCell c) (launchCredit (Pipeline.owing O₀) 0 (barCell c)) = (tallyAt (barCell c) () 6 : CellTallies nD τ sig Unit) := by
  unfold tallyAt; refine congrArg _ (Finsupp.ext fun u => ?_); cases u
  rw [Pipeline.launchCredit_owing, Finsupp.single_eq_same, Finset.sum_congr rfl fun d _ => O₀_bar d c]
  exact (by decide +kernel : ∀ c : Dev nD, (∑ d : Dev nD, ∑ i : Fin 6, if c = peer i d then 1 else 0) = 6) c
theorem launch_rcv (x : Fin 18) (c : Dev nD) :
    tallyOn (rcvCell x c) (launchCredit (Pipeline.owing O₀) 0 (rcvCell x c)) = (tallyAt (rcvCell x c) () N : CellTallies nD τ sig Unit) := by
  unfold tallyAt; refine congrArg _ (Finsupp.ext fun u => ?_); cases u
  rw [Pipeline.launchCredit_owing, Finsupp.single_eq_same, Finset.sum_congr rfl fun d _ => O₀_rcv d c x, Finset.sum_ite_eq' Finset.univ (frm x c) fun _ => N,
    if_pos (Finset.mem_univ _)]

theorem launch_creds (c : Dev nD) : (Pipeline.launchCred O₀ c : sProp 𝕄) ⊢ creds c := by
  unfold Pipeline.launchCred creds
  rw [bigSep_univ_at _ (SemLoc.reg barS), launch_bar]
  refine sep_mono_right ?_
  have h : (Finset.univ : Finset (Fin 18)).image (fun x => SemLoc.dma (rcvS x)) ⊆ (Finset.univ : Finset (SemLoc sig)).erase (SemLoc.reg barS) := fun s hs => by
    obtain ⟨x, -, rfl⟩ := Finset.mem_image.mp hs
    exact Finset.mem_erase.mpr ⟨fun h => (by cases h), Finset.mem_univ _⟩
  refine BIBase.Entails.trans (bigSep_subset h) ?_
  rw [bigSep_image_of_injOn (fun x _ y _ e => rcv_inj (SemLoc.dma.inj e))]
  exact Entails.of_eq (bigSep_congr fun x _ => congrArg cred (launch_rcv x c))

/-! ### The launch -/

section Deal

variable (X0 : Dev nD → S128x512.Idx → Elt F .f32) (X1 : Dev nD → S32x512.Idx → Elt F .f32) (X2 : Dev nD → S1x512.Idx → Elt F .f32)

/-- The records every device may consult. -/
def records (κ : GSem nD τ sig → ℕ) : sProp 𝕄 := iprop(cells X0 X1 X2 κ ∗ bigSep Finset.univ fun c : Dev nD => reached ER (barCell c) 0)

instance records_persistent (κ : GSem nD τ sig → ℕ) : BI.Persistent (records X0 X1 X2 κ) := by unfold records; infer_instance

theorem cells_intro (κ : GSem nD τ sig → ℕ) : (bigSep (barCells ∪ ownCells) fun g => (cellInv ER (Rd X0 X1 X2) (κ g) g : sProp 𝕄)) ⊢ cells X0 X1 X2 κ := by
  rw [bigSep_union disjoint_cells, bigSep_map, bigSep_map, own_eq (fun g => cellInv ER (Rd X0 X1 X2) (κ g) g), bigSep_sep', big_swap, big_swap]
  unfold cells
  exact BI.Entails.refl _

/-- What stays with one device. -/
def linear (c : Dev nD) : sProp 𝕄 :=
  iprop(atPos ER (barCell c) 0 (∅ : Finset (Fin 6)) 0
    ∗ (bigSep Finset.univ (fun x : Fin 18 => openTok ER (sndCell x c)) ∗ bigSep Finset.univ (fun x : Fin 18 => openTok ER (rcvCell x c)))
    ∗ bigSep Finset.univ (fun i : Fin 6 => dutyTok ER (barCell (peer i c)) 0 (back i))
    ∗ bigSep Finset.univ (fun x : Fin 18 => dutyTok ER (sndCell x c) 0 (0 : Fin 6))
    ∗ bigSep Finset.univ (fun x : Fin 18 => dutyTok ER (rcvCell x (tgt x c)) 0 (0 : Fin 6)))

theorem ghost_intro (κ : GSem nD τ sig → ℕ) (c : Dev nD) : iprop(records X0 X1 X2 κ ∗ linear c) ⊢ (iprop(∃ K, ghost X0 X1 X2 K c) : sProp 𝕄) := by
  have hr : iprop((bigSep Finset.univ fun c : Dev nD => (reached ER (barCell c) 0 : sProp 𝕄)) ∗ bigSep Finset.univ (fun i : Fin 6 => dutyTok ER (barCell (peer i c)) 0 (back i)))
      ⊢ (bigSep Finset.univ (fun i : Fin 6 => iprop(dutyTok ER (barCell (peer i c)) 0 (back i) ∗ reached ER (barCell (peer i c)) 0)) : sProp 𝕄) := by
    refine bigSep_with_persistent (R := bigSep Finset.univ fun c : Dev nD => (reached ER (barCell c) 0 : sProp 𝕄)) fun i _ => ?_
    have he : (bigSep Finset.univ fun c : Dev nD => (reached ER (barCell c) 0 : sProp 𝕄)) ⊢ reached ER (barCell (peer i c)) 0 :=
      bigSep_elim (Finset.mem_univ (peer i c))
    iintro ⟨#HR, Ht⟩
    isplitl [Ht]; · iexact Ht
    iapply he; iexact HR
  unfold records linear ghost
  iintro ⟨⟨#HC, #HR⟩, Hb, ⟨Hos, Hor⟩, HB, HS, HV⟩
  iexists κ
  isplitr; · iexact HC
  isplitl [Hb]; · iexact Hb
  isplitl [Hos]; · iexact Hos
  isplitl [Hor]; · iexact Hor
  isplitl [HB]
  · iapply hr
    isplitr; · iexact HR
    iexact HB
  rw [bigSep_sep']
  isplitl [HS] <;> iassumption

/-- What the launch leaves beside a device's buffers. -/
def rest (c : Dev nD) : sProp 𝕄 := iprop((∃ r, prngReg c r) ∗ Tk X0 X1 X2 c ∗ ∃ Wt, owes (c : Thread nD τ) (O₀ c) Wt)

theorem rest_intro (κ : GSem nD τ sig → ℕ) (c : Dev nD) :
    iprop(records X0 X1 X2 κ ∗ (linear c ∗ (creds c ∗ owes (c : Thread nD τ) (O₀ c) ∅ ∗ ∃ r, prngReg c r))) ⊢ (rest X0 X1 X2 c : sProp 𝕄) := by
  unfold rest Tk
  iintro ⟨#HR, Hl, Hc, HO, Hp⟩
  isplitl [Hp]; · iexact Hp
  isplitl [Hl Hc]
  · isplitl [Hl]
    · iapply (ghost_intro X0 X1 X2 κ c)
      isplitr; · iexact HR
      iexact Hl
    iexact Hc
  iexists ∅; iexact HO

end Deal

/-- The launch element. -/
def u₀ : UU := (initOf (Pipeline.cells cfgs cellOf_inj) (Pipeline.launchToks cfgs cellOf_inj), launchOf barCells ownCells toks)

/-- All of a resource on one device. -/
def onDev (c₀ : Dev nD) (X : sProp 𝕄) (c : Dev nD) : sProp 𝕄 := if c = c₀ then X else iprop(emp)
omit [FloatOps F] in
theorem bigSep_onDev (c₀ : Dev nD) (X : sProp (MT nD τ sig Unit (Elt F) ℕ UU ℕ)) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev 0 (BI.own (ER (launchOf barCells ownCells toks)))

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

section Run

variable (m : (ℓ : Loc nD τ sig) → Buf (Elt F) ℓ) (ρ : Dev nD → PrngReg)

/-- The contents at the region's entry. -/
abbrev V (c : Dev nD) : Valuation τ sig (Elt F) := V1 m c

abbrev E (_ : Fin 2) (c : Dev nD) : sProp 𝕄 := rest (in0 (V m)) (in1 (V m)) (in2 (V m)) c

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (fun c : Dev nD => iprop(StableHlo.held (c : Thread nD τ) (Pipeline.ucRefs τ sig) (V0 m c) ∗ E m 0 c)) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(StableHlo.held (c : Thread nD τ) (Pipeline.ucRefs τ sig) (V0 m c) ∗ (creds c ∗ owes (c : Thread nD τ) (O₀ c) ∅ ∗ ∃ r, prngReg c r)
        ∗ semVal (barCell c) 0 ∗ G c) : sProp 𝕄) := by
    rw [show unscopedBufs c (fun b => m ((c : Thread nD τ).loc b)) = StableHlo.held (c : Thread nD τ) (Pipeline.ucRefs τ sig) (V0 m c) from Pipeline.unscopedBufs_held c (V0 m c),
      unscopedSems_eq]
    iintro ⟨Hh, Hus, HO, Hcr, Hp, HG⟩
    ihave Hc := (launch_creds (F := F) c) $$ Hcr
    isplitl [Hh]; · iexact Hh
    isplitl [Hc HO Hp]
    · isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 (∅ : Finset (Fin 6)) 0 : sProp 𝕄)) ⊢ bigSep Finset.univ (fun c : Dev nD => (atPos ER (barCell c) 0 (∅ : Finset (Fin 6)) 0 : sProp 𝕄)) :=
    Entails.of_eq (bigSep_map (s := Finset.univ) barEmb (Φ := fun g : GSem nD τ sig => (atPos ER g 0 (∅ : Finset (Fin 6)) 0 : sProp 𝕄)))
  have hr : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopn : bigSep ownCells (fun g => (openTok ER g : sProp 𝕄))
      ⊢ bigSep Finset.univ (fun c : Dev nD => iprop(bigSep Finset.univ (fun x : Fin 18 => openTok ER (sndCell x c)) ∗ bigSep Finset.univ (fun x : Fin 18 => openTok ER (rcvCell x c)))) :=
    Entails.of_eq ((bigSep_map (s := Finset.univ) ownEmb).trans (own_eq (fun g => openTok ER g)))
  have htok : bigSep toks (fun t => (dutyTok ER t.1 t.2.1 t.2.2 : sProp 𝕄))
      ⊢ iprop(bigSep Finset.univ (fun c : Dev nD => bigSep Finset.univ fun i : Fin 6 => dutyTok ER (barCell (peer i c)) 0 (back i))
        ∗ bigSep Finset.univ (fun c : Dev nD => bigSep Finset.univ fun x : Fin 18 => dutyTok ER (sndCell x c) 0 (0 : Fin 6))
        ∗ bigSep Finset.univ (fun c : Dev nD => bigSep Finset.univ fun x : Fin 18 => dutyTok ER (rcvCell x (tgt x c)) 0 (0 : Fin 6))) :=
    Entails.of_eq (by rw [toks_eq, bar_around, bigSep_sep', rcv_around])
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (fun c : Dev nD => StableHlo.held (c : Thread nD τ) (Pipeline.ucRefs τ sig) (V0 m c))
        ∗ bigSep Finset.univ (fun c : Dev nD => iprop(creds c ∗ owes (c : Thread nD τ) (O₀ c) ∅ ∗ ∃ r, prngReg c r))
        ∗ bigSep Finset.univ (fun c : Dev nD => semVal (barCell c) 0) ∗ bigSep Finset.univ G) : sProp 𝕄) from by
        rw [← bigSep_sep', ← bigSep_sep', ← bigSep_sep']
        exact bigSep_mono fun c _ => hcore c) $$ H
  icases H' with ⟨Hh, HB, Hv, HG⟩
  ihave Hu := (show bigSep Finset.univ (G (F := F)) ⊢ BI.own (ER (launchOf barCells ownCells toks)) from
    Entails.of_eq (bigSep_onDev (F := F) 0 (BI.own (ER (launchOf barCells ownCells toks))))) $$ HG
  imod (Rounds.fund_launch ER (Rd (in0 (V m)) (in1 (V m)) (in2 (V m))) disjoint_cells (fun g _ h => h) toks) $$ [Hv Hu] with ⟨%κ, -, #Hinv, #Hr, Hat, Hopen, Htok⟩
  · isplitl [Hv]
    · iapply hv $$ Hv
    · iexact Hu
  imodintro
  ihave Htok := htok $$ Htok
  icases Htok with ⟨Ht1, Ht2, Ht3⟩
  iapply big_pair
  isplitl [Hh]; · iexact Hh
  iapply (bigSep_with_persistent (R := records (in0 (V m)) (in1 (V m)) (in2 (V m)) κ)
    (Φ := fun c => iprop(linear c ∗ (creds c ∗ owes (c : Thread nD τ) (O₀ c) ∅ ∗ ∃ r, prngReg c r))) fun c _ => rest_intro (in0 (V m)) (in1 (V m)) (in2 (V m)) κ c)
  isplitr
  · unfold records
    isplitr; · iapply (cells_intro (in0 (V m)) (in1 (V m)) (in2 (V m)) κ); iexact Hinv
    iapply hr; iexact Hr
  iapply big_pair
  isplitr [HB]
  · unfold linear
    iapply big_pair
    isplitl [Hat]; · iapply hat $$ Hat
    iapply big_pair
    isplitl [Hopen]; · iapply hopn $$ Hopen
    iapply big_pair
    isplitl [Ht1]; · iexact Ht1
    iapply big_pair
    isplitl [Ht2] <;> iassumption
  · iexact HB

theorem unscoped_bar : ∀ sm : SemLoc sig, sm.isScoped .tc = false → sm = .reg barS := by decide +kernel

theorem after0_arg (c : Dev nD) (r : Ref sig .tc) (h : r ∉ hostOps0_W) (h' : r ≠ main_v28) : after0 (V m) c (Proc.devRef .tc r) = m ((c : Thread nD τ).loc r) :=
  (after0_of (V m) c _ (StableHlo.devRef_ne_of_ne h')).trans ((V1_of m c r h).trans rfl)

set_option backward.isDefEq.respectTransparency.types false in
/-- THE RUN: from any memory with zero counters every fair execution ends, with the arguments unchanged, every device's result at
    `res`, and every counter at zero. -/
theorem run_main : θ_run defs (onTc (τ := τ) (main (F := F))) ⟨m, fun _ => 0, ρ⟩ (fun r => (∀ c : Dev nD,
      r.2.mem ((c.tc : Thread nD τ).loc main_v28) = res (V m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_regions_kit_dev_sems (pcfgs (F := F)) adm (pdats (V m)) () cellOf_inj EP defs₀ 𝒱₀ L lv m ρ main
    (segs m 𝒱₀ L lv (E m) () (pdats (V m)) (reg0 (V m)))
    (fun c Q => by
      rewrite [main_chain c, Seg.run_eq_chain,
        show (segs m 𝒱₀ L lv (E m) () (pdats (V m)) (reg0 (V m)) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (after0 (V m) c) ∗ semVal (barCell c) 0))
    (hch := fun c => ⟨.rfl, reg0_pre (V m) c, (reg0_post (V m) c).trans (by
      iintro ⟨Hh, Hb, HO⟩
      isplitr [HO]
      · isplitl [Hh] <;> iassumption
      · iexact HO)⟩)
    (hinit := init m ρ)
    (QY := fun c s => (s.mem ((c.tc : Thread nD τ).loc main_v28) = res (V m)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)) ∧ s.sem (barCell c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (after0 (V m) c) s') $$ [Hh HSI]
      · isplitl [Hh] <;> iassumption
      icases Hr with ⟨%h, HSI⟩
      imodintro
      isplitr
      · ipureintro
        exact ⟨⟨(h (Proc.devRef .tc main_v28) (Finset.mem_filter.mpr ⟨StableHlo.devRef_mem_tcRefs main_v28, by decide⟩)).trans (after0_out (V m) c),
          (h (Proc.devRef .tc main_arg0) (Finset.mem_filter.mpr ⟨StableHlo.devRef_mem_tcRefs main_arg0, by decide⟩)).trans (after0_arg m c main_arg0 (by decide) (by decide)),
          (h (Proc.devRef .tc main_arg1) (Finset.mem_filter.mpr ⟨StableHlo.devRef_mem_tcRefs main_arg1, by decide⟩)).trans (after0_arg m c main_arg1 (by decide) (by decide)),
          (h (Proc.devRef .tc main_arg2) (Finset.mem_filter.mpr ⟨StableHlo.devRef_mem_tcRefs main_arg2, by decide⟩)).trans (after0_arg m c main_arg2 (by decide) (by decide))⟩, by simpa using hb⟩
      · iexact HSI)
    (hQ := fun s h hs => ⟨fun c => (h c).1,
      sem_eq_zero hs fun c sm hsm => by
        obtain rfl := unscoped_bar sm hsm
        exact (h c).2⟩)

end Run

end Cert.Proof
-- ==== Proof.Frames.lean ====
/-
  The frames: every weakly fair execution ends, with the arguments as they were and every counter at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

noncomputable section

namespace Cert.Proof

open Idealize.ShloMosaic Idealize.ShloMosaic.TcCoe Idealize.SL.Sem

section Kernel
open Cert.KernelIdeal

/-- The frame of the kernel's program, over any floats. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_main (F := F) m ρ)

end Kernel

/-! ### One text, printed twice -/

/-- The two programs' bodies are one text, -/
theorem body_same : Cert.Kernel.cc0_body (F := Bits) = Cert.KernelIdeal.cc0_body (F := Bits) := rfl

/-- so their body tables agree at every label, -/
theorem table_same : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | ⟨0, _⟩, (t, s) => rfl
  | ⟨n + 1, h⟩, _ => exact absurd h (Nat.not_lt.2 (Nat.le_add_left _ _))

/-- and so do the tables with the region's pipeline added. -/
theorem defs_same : Cert.Kernel.defs (F := Bits) = Cert.KernelIdeal.defs (F := Bits) :=
  congrArg (Pipeline.defs (Cert.Kernel.pcfgs (F := Bits))) table_same

/-! ### The three frames -/

theorem frame_kernel : Cert.quiescent_Kernel := fun m ρ _ =>
  (congrArg (fun D => θ_run D (onTc (τ := Cert.Kernel.τ) (Cert.Kernel.main (F := Bits))) ⟨m, fun _ => 0, ρ⟩ _) defs_same).mpr
    (frame_any (F := Bits) m ρ)
theorem frame_ideal : Cert.quiescent_KernelIdeal := fun m ρ _ => frame_any (F := Ideal) m ρ

section Reference
open Cert.ReferenceIdeal

/-- The reference has no counters to leave raised. -/
theorem frame_reference : Cert.quiescent_ReferenceIdeal := fun m ρ _ =>
  (θ_run defs _ _).mono (fun r h => ⟨fun c => (h c).2, sem_eq_zero_of_no_sems (by decide) r.2⟩)
    (Cert.ReferenceIdeal.Value.run (F := Ideal) m ρ)

end Reference

end Cert.Proof
-- ==== Proof.HostSide.lean ====
/-
  THE HOST STRETCH: what the region's three staged inputs hold, element by element, of the arguments. Device `c`, member
  `c % 4` of group `c / 4`, takes the 128 rows of its partial that its group finishes, and the 32 rows of the residual
  that it finishes itself.
-/
module

public import proofs.«01_k».proof.Proof.Launch
public import Idealize.ShloMosaic.Lib.Pointwise
public import Idealize.ShloMosaic.Lib.WordCmp

@[expose] public section

noncomputable section

namespace Cert.Proof

open Cert.KernelIdeal Cert.KernelIdeal.Gen
open Idealize.ShloMosaic Idealize.ShloMosaic.TcCoe

variable {F : FTy → Type} [FloatOps F] (m : (ℓ : Loc nD τ sig) → Buf (Elt F) ℓ)

/-- The arguments of device `c`. -/
def arg0 (c : Dev nD) : S1x512x512.Idx → Elt F .f32 := m ((c.tc : Thread nD τ).loc main_arg0)
def arg1 (c : Dev nD) : S512x512.Idx → Elt F .f32 := m ((c.tc : Thread nD τ).loc main_arg1)
def arg2 (c : Dev nD) : S512.Idx → Elt F .f32 := m ((c.tc : Thread nD τ).loc main_arg2)

/-- The row a group's rows start at, as the host computes it from the device's number, -/
def groupRow (c : Dev nD) : IVec S_ 32 :=
  muli (constantI S_ 32 128#32)
    (addi (muli (constantI S_ 32 2#32)
        (id (Host.remui (Host.divui (constantI S_ 32 c.word) (constantI S_ 32 8#32)) (constantI S_ 32 2#32))))
      (id (Host.remui (Host.divui (constantI S_ 32 c.word) (constantI S_ 32 4#32)) (constantI S_ 32 2#32))))
/-- and the row a device's own rows start at. -/
def pieceRow (c : Dev nD) : IVec S_ 32 :=
  addi (groupRow c) (muli (constantI S_ 32 32#32)
    (id (Host.remui (Host.divui (constantI S_ 32 c.word) (constantI S_ 32 1#32)) (constantI S_ 32 4#32))))
/-- A row counted from the end, if it is negative. -/
def wrapRow (v : IVec S_ 32) : BitVec 32 :=
  select (cmpi .slt v (constantI S_ 32 0#32)) (addi v (constantI S_ 32 512#32)) v (Shape.Idx.first h_S_)

theorem groupRow_val : ∀ c : Dev nD, (wrapRow (groupRow c)).toInt = ((128 * (c.val / 4) : ℕ) : Int) := by decide +kernel
theorem pieceRow_val : ∀ c : Dev nD, (wrapRow (pieceRow c)).toInt = ((32 * c.val : ℕ) : Int) := by decide +kernel

/-- The scale, as one row. -/
theorem in2_eq (c : Dev nD) (j : Fin 512) : in2 (V m) c (ix2 0 j) = arg2 m c (ix1 j) := by
  unfold in2 V V1
  after_results
  pointwise
  rfl

/-- The rows of the partial: the group's, of the device's own plane. -/
theorem in0_eq (c : Dev nD) (i : Fin 128) (j : Fin 512) :
    in0 (V m) c (ix2 i j) = arg0 m c (ix3 0 ⟨(128 * (c.val / 4) + i.val) % 512, Nat.mod_lt _ (by decide)⟩ j) := by
  unfold in0 V V1
  after_results
  refine (congrFun (WordCmp.dynamicSlice_eq_extract _ _ _ _ ![128 * (c.val / 4), 0] (by revert c; decide) ?_) _).trans ?_
  · intro a
    match a with
    | ⟨0, _⟩ =>
      refine Eq.trans ?_ (groupRow_val c)
      generalize hU : HloOp.result (StableHlo.nullary main_c_9 _ _) _ = U
      show BitVec.toInt (StableHlo.after [] U (Proc.devRef .tc main_v20) (Shape.Idx.first h_S_)) = _
      subst hU
      after_results
      rfl
    | ⟨1, _⟩ => rfl
  · pointwise
    have hc : c.val < 16 := c.isLt
    have hi : (128 * (c.val / 4) + i.val) % 512 = 128 * (c.val / 4) + i.val := Nat.mod_eq_of_lt (by omega)
    simp only [hi]
    rfl

/-- The rows of the residual: the device's own. -/
theorem in1_eq (c : Dev nD) (i : Fin 32) (j : Fin 512) :
    in1 (V m) c (ix2 i j) = arg1 m c (ix2 ⟨(32 * c.val + i.val) % 512, Nat.mod_lt _ (by decide)⟩ j) := by
  unfold in1 V V1
  after_results
  refine (congrFun (WordCmp.dynamicSlice_eq_extract _ _ _ _ ![32 * c.val, 0] (by revert c; decide) ?_) _).trans ?_
  · intro a
    match a with
    | ⟨0, _⟩ =>
      refine Eq.trans ?_ (pieceRow_val c)
      generalize hU : HloOp.result (StableHlo.nullary main_c_13 _ _) _ = U
      show BitVec.toInt (StableHlo.after [] U (Proc.devRef .tc main_v26) (Shape.Idx.first h_S_)) = _
      subst hU
      after_results
      rfl
    | ⟨1, _⟩ => rfl
  · pointwise
    have hc : c.val < 16 := c.isLt
    have hi : (32 * c.val + i.val) % 512 = 32 * c.val + i.val := Nat.mod_eq_of_lt (by omega)
    simp only [hi]
    rfl

end Cert.Proof
-- ==== Proof.Norm.lean ====
/-
  ONE ROW. Kernel and reference finish a row in the same way: each element over the root of the mean square, times the
  scale. Here are the piece a device finishes and the reference's result, each read at an element as that function of a
  row of sums.
-/
module

public import proofs.«01_k».proof.Proof.Views
public import proofs.«01_k».proof.Proof.Gen.ReferenceIdeal.Run
public import Idealize.ShloMosaic.Lib.Pointwise

@[expose] public section

noncomputable section

namespace Cert.Proof

open Idealize.ShloMosaic Idealize.ShloMosaic.TcCoe

/-- Element `j` of a finished row: of the row of sums `y` and the element's scale `g`. -/
def rowNorm (y : Fin 512 → EReal) (g : EReal) (j : Fin 512) : EReal :=
  Ideal.div (y j) (Ideal.sqrt (Ideal.div (∑ x, y x * y x) (Ideal.ofBits .f32 0x44000000#32) + Ideal.ofBits .f32 0x358637BD#32)) * g

section Kernel
open Cert.KernelIdeal Cert.KernelIdeal.Gen

/-- What a device computes of its own block, the three that arrived, the residual and the scale. -/
theorem pay_apply (a : S32x512.Idx → Elt Ideal .f32) (b c d : S1x32x512.Idx → Elt Ideal .f32) (r : S32x512.Idx → Elt Ideal .f32)
    (g : S1x512.Idx → Elt Ideal .f32) (i : Fin 32) (j : Fin 512) :
    k0_pay1 (F := Ideal) a b c d r g (ix2 i j) =
      rowNorm (fun x => a (ix2 i x) + b (ix3 0 i x) + c (ix3 0 i x) + d (ix3 0 i x) + r (ix2 i x)) (g (ix2 0 j)) j := by
  pointwise [k0_pay1, rowNorm]

end Kernel

section Reference
open Cert.ReferenceIdeal Cert.ReferenceIdeal.Gen

/-- The reference's result, of its arguments. -/
def refOut (A : S4x512x512.Idx → Elt Ideal .f32) (R : S512x512.Idx → Elt Ideal .f32) (G : S512.Idx → Elt Ideal .f32) :
    S512x512.Idx → Elt Ideal .f32 :=
  let y : FVec Ideal S512x512 .f32 :=
    addf (Host.reduceAdd A (constant S_ .f32 0x00000000#32) reducesTo_S4x512x512_S512x512_d0 h_S_) R
  mulf (Host.divf y (broadcastInDim S512x512 ![0, 1] bcast_S512x1_S512x512_0_1
      (Host.sqrt (addf (Host.divf (broadcastInDim S512x1 ![0] bcast_S512_S512x1_0
            (Host.reduceAdd (mulf y y) (constant S_ .f32 0x00000000#32) reducesTo_S512x512_S512_d1 h_S_))
          (broadcastInDim S512x1 ![] bcast_S_S512x1 (constant S_ .f32 0x44000000#32)))
        (broadcastInDim S512x1 ![] bcast_S_S512x1 (constant S_ .f32 0x358637BD#32))))))
    (broadcastInDim S512x512 ![0, 1] bcast_S1x512_S512x512_0_1 (broadcastInDim S1x512 ![1] bcast_S512_S1x512_1 G))

/-- Its element: the row is the sum of the four planes and the residual. -/
theorem refOut_apply (A : S4x512x512.Idx → Elt Ideal .f32) (R : S512x512.Idx → Elt Ideal .f32) (G : S512.Idx → Elt Ideal .f32)
    (i : Fin 512) (j : Fin 512) :
    refOut A R G (ix2 i j) = rowNorm (fun x => (∑ k, A (ix3 k i x)) + R (ix2 i x)) (G (ix1 j)) j := by
  pointwise [refOut, rowNorm]

end Reference

end Cert.Proof
-- ==== Proof.Equation.lean ====
/-
  THE EQUATION. Row `32 d + i` of the kernel's result is what device `d` finishes: the sum, over the four members of its
  group, of their planes' row, in an order that starts at `d`'s own plane; plus the residual's row. The reference adds
  the four planes in theirs.
-/
module

public import proofs.«01_k».proof.Proof.HostSide
public import proofs.«01_k».proof.Proof.Norm
public import Idealize.ShloMosaic.Lib.Layout

@[expose] public section

noncomputable section

namespace Cert.Proof

open Cert.KernelIdeal Cert.KernelIdeal.Gen
open Idealize.ShloMosaic Idealize.ShloMosaic.TcCoe

/-- Four terms in the order a member takes them. -/
theorem sum_around (f : Fin 4 → EReal) (k0 k1 k2 k3 : Fin 4) (h : ([k0, k1, k2, k3] : List (Fin 4)).Nodup) :
    f k0 + f k1 + f k2 + f k3 = ∑ k, f k := by
  have hs : (Finset.univ : Finset (Fin 4)) = ([k0, k1, k2, k3] : List (Fin 4)).toFinset := by
    symm
    apply Finset.eq_univ_of_card
    rw [List.toFinset_card_of_nodup h]
    rfl
  rw [hs, List.sum_toFinset f h]
  simp [add_assoc]

/-- The plane a device holds. -/
def plane (c : Dev nD) : Fin 4 := ⟨c.val % 4, Nat.mod_lt _ (by decide)⟩

theorem planes_nodup : ∀ d : Dev nD,
    ([plane d, plane (frm 0 d), plane (frm 1 d), plane (frm 2 d)] : List (Fin 4)).Nodup := by decide +kernel
theorem frm_group : ∀ d : Dev nD,
    ((frm 0 d).val / 4 = d.val / 4 ∧ (frm 1 d).val / 4 = d.val / 4 ∧ (frm 2 d).val / 4 = d.val / 4)
      ∧ rowsOf 0 (frm 0 d) = ownRows d ∧ rowsOf 1 (frm 1 d) = ownRows d ∧ rowsOf 2 (frm 2 d) = ownRows d := by decide +kernel

variable (m : (ℓ : Loc nD τ sig) → Buf (Elt Ideal) ℓ)
  (A : (⟨3, ![4, 512, 512]⟩ : Shape).Idx → EReal) (R : S512x512.Idx → EReal) (G : S512.Idx → EReal)

/-- Every device holds its plane of the partials. -/
def Held0 : Prop := ∀ c : Dev nD, arg0 m c = Layout.blockN ⟨3, ![1, 512, 512]⟩ ⟨3, ![4, 512, 512]⟩ (Layout.meshBlock [2, 2, 4] ![[2], [], []] c) A

theorem held_apply (h : Held0 m A) (c : Dev nD) (i j : Fin 512) : arg0 m c (ix3 0 i j) = A (ix3 (plane c) i j) := by
  rw [h c]
  refine congrArg A (funext fun a => ?_)
  match a with
  | ⟨0, _⟩ =>
    have hz : ∀ c : Dev nD, Layout.meshLin [2, 2, 4] c.val [2] * 1 + 0 = c.val % 4 := by decide +kernel
    exact Fin.ext (hz c)
  | ⟨1, _⟩ => exact Fin.ext (Nat.zero_add _)
  | ⟨2, _⟩ => exact Fin.ext (Nat.zero_add _)

/-- Row `i` of the piece device `d` finishes, in the whole result. -/
def rowAt (d : Dev nD) (i : Fin 32) : Fin 512 := ⟨32 * d.val + i.val, by have := d.isLt; have := i.isLt; have : nD = 16 := rfl; omega⟩

/-- A group member's block for `d`, read at an element. -/
theorem rowsVal_apply (h : Held0 m A) (d e : Dev nD) (he : e.val / 4 = d.val / 4) (i : Fin 32) (j : Fin 512) :
    rowsVal (in0 (V m)) (ownRows d) e (ix2 i j) = A (ix3 (plane e) (rowAt d i) j) := by
  have hi : (rowsR (ownRows d)).emb (ix2 i j) =
      (ix2 ⟨32 * (d.val % 4) + i.val, by have := i.isLt; omega⟩ j : (⟨2, ![128, 512]⟩ : Shape).Idx) := by
    funext a
    match a with
    | ⟨0, _⟩ => exact Fin.ext (congrArg (32 * (d.val % 4) + ·) (Nat.one_mul _))
    | ⟨1, _⟩ => exact Fin.ext ((Nat.zero_add _).trans (Nat.one_mul _))
  show in0 (V m) e ((rowsR (ownRows d)).emb (ix2 i j)) = _
  rw [hi, in0_eq, held_apply m A h]
  refine congrArg (fun p => A (ix3 (plane e) p j)) (Fin.ext ?_)
  have hd : d.val < 16 := d.isLt
  have := i.isLt
  show (128 * (e.val / 4) + (32 * (d.val % 4) + i.val)) % 512 = 32 * d.val + i.val
  omega

theorem expand_apply (X : S32x512.Idx → Elt Ideal .f32) (i : Fin 32) (j : Fin 512) : expand X (ix3 0 i j) = X (ix2 i j) := by
  unfold expand
  pointwise

/-- The piece device `d` finishes is the reference's. -/
theorem pieceVal_apply (h : Held0 m A) (h1 : ∀ c, arg1 m c = R) (h2 : ∀ c, arg2 m c = G) (d : Dev nD) (i : Fin 32) (j : Fin 512) :
    pieceVal (in0 (V m)) (in1 (V m)) (in2 (V m)) d (ix2 i j) = refOut A R G (ix2 (rowAt d i) j) := by
  unfold pieceVal
  rw [pay_apply, refOut_apply, in2_eq, h2]
  refine congrArg (fun y => rowNorm y (G (ix1 j)) j) (funext fun x => ?_)
  obtain ⟨⟨e0, e1, e2⟩, r0, r1, r2⟩ := frm_group d
  rw [expand_apply, expand_apply, expand_apply, rowsVal_apply m A h d d rfl, r0, r1, r2]
  rw [rowsVal_apply m A h d _ e0, rowsVal_apply m A h d _ e1, rowsVal_apply m A h d _ e2, in1_eq, h1]
  refine congrArg₂ (· + ·) (sum_around (fun k => A (ix3 k (rowAt d i) x)) _ _ _ _ (planes_nodup d)) ?_
  refine congrArg (fun p => R (ix2 p x)) (Fin.ext ?_)
  have hd : d.val < 16 := d.isLt
  have := i.isLt
  show (32 * d.val + i.val) % 512 = 32 * d.val + i.val
  omega

/-- The kernel's result, on every device, is the reference's. -/
theorem res_eq (h : Held0 m A) (h1 : ∀ c, arg1 m c = R) (h2 : ∀ c, arg2 m c = G) : res (V m) = refOut A R G := by
  funext p
  obtain ⟨a, b, rfl⟩ : ∃ (a : Fin 512) (b : Fin 512), p = ix2 a b := ⟨p 0, p 1, eq_ix2 p⟩
  have hp := pieceVal_apply m A R G h h1 h2 (⟨a.val / 32, Nat.div_lt_of_lt_mul a.isLt⟩ : Dev nD) ⟨a.val % 32, Nat.mod_lt _ (by decide)⟩ b
  have hr : rowAt (⟨a.val / 32, Nat.div_lt_of_lt_mul a.isLt⟩ : Dev nD) ⟨a.val % 32, Nat.mod_lt _ (by decide)⟩ = a :=
    Fin.ext (Nat.div_add_mod _ _)
  rw [hr] at hp
  refine Eq.trans ?_ hp
  refine congrArg (pieceVal (in0 (V m)) (in1 (V m)) (in2 (V m)) _) (funext fun x => ?_)
  match x with
  | ⟨0, _⟩ => rfl
  | ⟨1, _⟩ => rfl

end Cert.Proof
-- ==== Proof.lean ====
/-
  The claims of this certificate, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equation

@[expose] public section

noncomputable section

namespace Cert.Proof

open Idealize.ShloMosaic Idealize.ShloMosaic.TcCoe Idealize.SL.Sem

/-- Both programs end with the same result: the reference's function of its arguments, on every device of the mesh. -/
theorem value : Cert.algebraic_KernelIdeal_ReferenceIdeal := fun m g m' g' _ hin =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono
      (fun _ h c => ⟨(h.1 c).1.trans (res_eq m _ _ _ (fun d => (hin d).1) (fun d => (hin d).2.1) (fun d => (hin d).2.2)), (h.1 c).2⟩)
      (run_main (F := Ideal) m g),
    (θ_run Cert.ReferenceIdeal.defs _ _).mono (fun _ h => h 0) (Cert.ReferenceIdeal.Value.run (F := Ideal) m' g')⟩

/-- Everything claimed. -/
theorem claim : Cert.Claim :=
  ⟨Cert.Kernel.Gen.facts, Cert.KernelIdeal.Gen.facts, Cert.ReferenceIdeal.Gen.facts,
    frame_kernel, frame_ideal, frame_reference, trivial, value⟩

end Cert.Proof
